-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S512x4096 : Shape := ⟨2, ![512, 4096]⟩
abbrev S3x512x4096 : Shape := ⟨3, ![3, 512, 4096]⟩
abbrev S4x256x2048 : Shape := ⟨3, ![4, 256, 2048]⟩
abbrev S4 : Shape := ⟨1, ![4]⟩
abbrev S2 : Shape := ⟨1, ![2]⟩
abbrev S8x128 : Shape := ⟨2, ![8, 128]⟩
abbrev S3x8x128 : Shape := ⟨3, ![3, 8, 128]⟩
abbrev S3 : Shape := ⟨1, ![3]⟩
abbrev S_ : Shape := ⟨0, ![]⟩
abbrev S1 : Shape := ⟨1, ![1]⟩
abbrev S1x512x4096 : Shape := ⟨3, ![1, 512, 4096]⟩
abbrev S512x2048 : Shape := ⟨2, ![512, 2048]⟩
abbrev S256x2048 : Shape := ⟨2, ![256, 2048]⟩
abbrev S1x256x2048 : Shape := ⟨3, ![1, 256, 2048]⟩
abbrev S1x512x2048 : Shape := ⟨3, ![1, 512, 2048]⟩
abbrev S1x1x1 : Shape := ⟨3, ![1, 1, 1]⟩
abbrev S1x256x4096 : Shape := ⟨3, ![1, 256, 4096]⟩
abbrev S256x4096 : Shape := ⟨2, ![256, 4096]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S4096x2048, .f32⟩
  | .local _ .vmem, ⟨0, _⟩ => ⟨S4096x2048, .bf16⟩
  | .local _ .vmem, ⟨1, _⟩ => ⟨S512x4096, .bf16⟩
  | .local _ .vmem, ⟨2, _⟩ => ⟨S512x4096, .bf16⟩
  | .local _ .vmem, ⟨3, _⟩ => ⟨S3x512x4096, .bf16⟩
  | .local _ .vmem, ⟨4, _⟩ => ⟨S3x512x4096, .bf16⟩
  | .local _ .vmem, ⟨5, _⟩ => ⟨S4x256x2048, .f32⟩
  | .local _ .vmem, ⟨6, _⟩ => ⟨S8x128, .f32⟩
  | .local _ .vmem, ⟨7, _⟩ => ⟨S3x8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch12 : Ref sig .tc := ⟨.vmem, 6, rfl⟩
abbrev cc0_scratch13 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let v10 : BitVec 32 := Scalar.remsi v9 c4_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_9 : BitVec 32 := 4#32
  let v14 : BitVec 32 := Scalar.remsi v13 c4_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_13 : BitVec 32 := 4#32
  let v18 : BitVec 32 := Scalar.remsi v17 c4_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_32 : BitVec 32 := 1#32
  let v33 : BitVec 32 := Scalar.muli v4 c1_i32_32
  let v34 : BitVec 32 := Scalar.addi c0_i32_33 v33
  v34.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_39 : BitVec 32 := 1#32
  let v41 : BitVec 32 := Scalar.muli v7 c1_i32_39
  let v42 : BitVec 32 := Scalar.addi c0_i32_40 v41
  v42.toNat
def k0_off1 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v50 : BitVec 32 := Scalar.muli v2 c1024_i32
  let v64 : BitVec 32 := Scalar.addi v50 c0_i32_52
  let c0_i32_55 : BitVec 32 := 0#32
  ![v64.toNat, 0]
def k0_off2 (d0 : Dev nD) (c0_i32_78 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_68 : BitVec 32 := 1024#32
  let v83 : BitVec 32 := Scalar.muli v2 c1024_i32_68
  let c512_i32_69 : BitVec 32 := 512#32
  let v84 : BitVec 32 := Scalar.addi v83 c512_i32_69
  let v98 : BitVec 32 := Scalar.addi v84 c0_i32_78
  let c0_i32_81 : BitVec 32 := 0#32
  ![v98.toNat, 0]
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_111 : BitVec 32 := 1#32
  let v128 : BitVec 32 := Scalar.muli v4 c1_i32_111
  let v129 : BitVec 32 := Scalar.addi c0_i32_112 v128
  v129.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_121 : BitVec 32 := 1#32
  let v138 : BitVec 32 := Scalar.muli v7 c1_i32_121
  let v139 : BitVec 32 := Scalar.addi c0_i32_122 v138
  v139.toNat
def k0_off3 (d0 : Dev nD) (c1_i32_128 : BitVec 32) (c0_i32_156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_127 : BitVec 32 := 4#32
  let v148 : BitVec 32 := Scalar.addi v2 c4_i32_127
  let v149 : BitVec 32 := Scalar.subi v148 c1_i32_128
  let c4_i32_129 : BitVec 32 := 4#32
  let v150 : BitVec 32 := Scalar.remsi v149 c4_i32_129
  let c1024_i32_135 : BitVec 32 := 1024#32
  let v155 : BitVec 32 := Scalar.muli v150 c1024_i32_135
  let v179 : BitVec 32 := Scalar.addi v155 c0_i32_156
  let c0_i32_159 : BitVec 32 := 0#32
  ![v179.toNat, 0]
def k0_off3_at (r : Fin 5) : BitVec 32 × BitVec 32 :=
  if r.val < 2 then
    if r.val < 1 then
      (1#32, 0#32)
    else
      (1#32, 256#32)
  else
    if r.val < 3 then
      (2#32, 0#32)
    else
      if r.val < 4 then
        (2#32, 256#32)
      else
        (3#32, 256#32)
def k0_off4 (d0 : Dev nD) (c1_i32_130 : BitVec 32) (c0_i32_196 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v151 : BitVec 32 := Scalar.addi v2 c1_i32_130
  let c4_i32_131 : BitVec 32 := 4#32
  let v152 : BitVec 32 := Scalar.remsi v151 c4_i32_131
  let c1024_i32_174 : BitVec 32 := 1024#32
  let v199 : BitVec 32 := Scalar.muli v152 c1024_i32_174
  let c512_i32_175 : BitVec 32 := 512#32
  let v200 : BitVec 32 := Scalar.addi v199 c512_i32_175
  let v224 : BitVec 32 := Scalar.addi v200 c0_i32_196
  let c0_i32_199 : BitVec 32 := 0#32
  ![v224.toNat, 0]
def k0_off4_at (r : Fin 5) : BitVec 32 × BitVec 32 :=
  if r.val < 2 then
    if r.val < 1 then
      (1#32, 0#32)
    else
      (1#32, 256#32)
  else
    if r.val < 3 then
      (2#32, 0#32)
    else
      if r.val < 4 then
        (2#32, 256#32)
      else
        (3#32, 256#32)
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_235 : BitVec 32 := 1#32
  let v258 : BitVec 32 := Scalar.muli v4 c1_i32_235
  let v259 : BitVec 32 := Scalar.addi c0_i32_236 v258
  v259.toNat
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_245 : BitVec 32 := 1#32
  let v268 : BitVec 32 := Scalar.muli v4 c1_i32_245
  let v269 : BitVec 32 := Scalar.addi c0_i32_246 v268
  v269.toNat
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_255 : BitVec 32 := 1#32
  let v278 : BitVec 32 := Scalar.muli v7 c1_i32_255
  let v279 : BitVec 32 := Scalar.addi c0_i32_256 v278
  v279.toNat
def k0_dev11 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_265 : BitVec 32 := 1#32
  let v288 : BitVec 32 := Scalar.muli v7 c1_i32_265
  let v289 : BitVec 32 := Scalar.addi c0_i32_266 v288
  v289.toNat
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_539 : BitVec 32 := 1#32
  let v570 : BitVec 32 := Scalar.addi v2 c1_i32_539
  let c4_i32_540 : BitVec 32 := 4#32
  let v571 : BitVec 32 := Scalar.remsi v570 c4_i32_540
  let c1_i32_544 : BitVec 32 := 1#32
  let v572 : BitVec 32 := Scalar.muli v571 c1_i32_544
  let v573 : BitVec 32 := Scalar.addi c0_i32_545 v572
  v573.toNat
def k0_dev13 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_548 : BitVec 32 := 2#32
  let v580 : BitVec 32 := Scalar.addi v2 c2_i32_548
  let c4_i32_549 : BitVec 32 := 4#32
  let v581 : BitVec 32 := Scalar.remsi v580 c4_i32_549
  let c1_i32_553 : BitVec 32 := 1#32
  let v582 : BitVec 32 := Scalar.muli v581 c1_i32_553
  let v583 : BitVec 32 := Scalar.addi c0_i32_554 v582
  v583.toNat
def k0_dev14 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_557 : BitVec 32 := 3#32
  let v590 : BitVec 32 := Scalar.addi v2 c3_i32_557
  let c4_i32_558 : BitVec 32 := 4#32
  let v591 : BitVec 32 := Scalar.remsi v590 c4_i32_558
  let c1_i32_562 : BitVec 32 := 1#32
  let v592 : BitVec 32 := Scalar.muli v591 c1_i32_562
  let v593 : BitVec 32 := Scalar.addi c0_i32_563 v592
  v593.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_355 : BitVec 32 := 4#32
  let v392 : BitVec 32 := Scalar.addi v2 c4_i32_355
  let c3_i32_356 : BitVec 32 := 3#32
  let v393 : BitVec 32 := Scalar.subi v392 c3_i32_356
  let c4_i32_357 : BitVec 32 := 4#32
  let v394 : BitVec 32 := Scalar.remsi v393 c4_i32_357
  let c1024_i32_373 : BitVec 32 := 1024#32
  let v407 : BitVec 32 := Scalar.muli v394 c1024_i32_373
  let c0_i32_611 : BitVec 32 := 0#32
  ![v407.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_358 : BitVec 32 := 3#32
  let v395 : BitVec 32 := Scalar.addi v2 c3_i32_358
  let c4_i32_359 : BitVec 32 := 4#32
  let v396 : BitVec 32 := Scalar.remsi v395 c4_i32_359
  let c1024_i32_400 : BitVec 32 := 1024#32
  let v435 : BitVec 32 := Scalar.muli v396 c1024_i32_400
  let c512_i32_401 : BitVec 32 := 512#32
  let v436 : BitVec 32 := Scalar.addi v435 c512_i32_401
  let c0_i32_624 : BitVec 32 := 0#32
  ![v436.toNat, 0]
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 9
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Ideal.Program.lean ====
/- The kernel's body as a short program of named steps: the same operations in the same order, one name for each kind of step. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Mathlib.Tactic.DeriveFintype

@[expose] public section

noncomputable section

namespace Cert.Proof.KernelIdeal

open Cert.KernelIdeal Cert.KernelIdeal.Gen
open Idealize.ShloMosaic Idealize.ShloMosaic.TcCoe Idealize.SL.Sem

variable {F : FTy → Type} [FloatOps F]

/-! ## The buffers -/

abbrev xM : Memref sig .tc .hbm S1024x4096 .bf16 := Memref.whole main_arg0
abbrev wM : Memref sig .tc .vmem S4096x2048 .bf16 := win0_0.stage (cfg0.slots t0_0 0)
abbrev oM : Memref sig .tc .hbm S4096x2048 .f32 := Memref.whole main_v1
abbrev ownA : Memref sig .tc .vmem S512x4096 .bf16 := Memref.whole cc0_scratch0
abbrev ownB : Memref sig .tc .vmem S512x4096 .bf16 := Memref.whole cc0_scratch1
abbrev comA : Memref sig .tc .vmem S3x512x4096 .bf16 := Memref.whole cc0_scratch2
abbrev comB : Memref sig .tc .vmem S3x512x4096 .bf16 := Memref.whole cc0_scratch3
abbrev stgM : Memref sig .tc .vmem S4x256x2048 .f32 := Memref.whole cc0_scratch4
abbrev boxM : Memref sig .tc .vmem S8x128 .f32 := Memref.whole cc0_scratch12
abbrev bxsM : Memref sig .tc .vmem S3x8x128 .f32 := Memref.whole cc0_scratch13

/-- The upper 512 rows of the device's block of `x`, and the lower 512. -/
abbrev xHi : Memref sig .tc .hbm S512x4096 .bf16 := xM.slice (Rect.unit (s := S1024x4096) ![0, 0] S512x4096.size inb_S1024x4096_S512x4096_0_0) (fun _ => rfl)
abbrev xLo : Memref sig .tc .hbm S512x4096 .bf16 := xM.slice (Rect.unit (s := S1024x4096) ![512, 0] S512x4096.size inb_S1024x4096_S512x4096_512_0) (fun _ => rfl)

/-! ## Semaphores of the arrays -/

theorem inb2 (j : Fin 2) : ∀ a, (![j.val] : Fin 1 → ℕ) a + S1.size a ≤ S2.size a := by revert j; decide
theorem inb3 (j : Fin 3) : ∀ a, (![j.val] : Fin 1 → ℕ) a + S1.size a ≤ S3.size a := by revert j; decide
theorem inb4 (j : Fin 4) : ∀ a, (![j.val] : Fin 1 → ℕ) a + S1.size a ≤ S4.size a := by revert j; decide

def sem2 (A : DmaSems sig S2) (j : Fin 2) : DmaSem sig := ((A.slice (Rect.unit (s := S2) ![j.val] S1.size (inb2 j))).squeeze S_ squeezes_S1_S_).sem
def sem3 (A : DmaSems sig S3) (j : Fin 3) : DmaSem sig := ((A.slice (Rect.unit (s := S3) ![j.val] S1.size (inb3 j))).squeeze S_ squeezes_S1_S_).sem
def sem4 (A : DmaSems sig S4) (j : Fin 4) : DmaSem sig := ((A.slice (Rect.unit (s := S4) ![j.val] S1.size (inb4 j))).squeeze S_ squeezes_S1_S_).sem

/-! ## Pieces of the buffers -/

theorem inbHop (h : Fin 3) : ∀ a, (![h.val, 0, 0] : Fin 3 → ℕ) a + S1x512x4096.size a ≤ S3x512x4096.size a := by revert h; decide
theorem inbHalf (h : Fin 3) (b : Fin 2) : ∀ a, (![h.val, 256 * b.val, 0] : Fin 3 → ℕ) a + S1x256x4096.size a ≤ S3x512x4096.size a := by revert h b; decide
theorem inbSlot (j : Fin 4) : ∀ a, (![j.val, 0, 0] : Fin 3 → ℕ) a + S1x256x2048.size a ≤ S4x256x2048.size a := by revert j; decide
theorem inbBox (j : Fin 3) : ∀ a, (![j.val, 0, 0] : Fin 3 → ℕ) a + S1x8x128.size a ≤ S3x8x128.size a := by revert j; decide
theorem wordsHop (h : Fin 3) : (Rect.unit (s := S3x512x4096) ![h.val, 0, 0] S1x512x4096.size (inbHop h)).WholeWords (EltTy.packing .bf16) := by revert h; decide
theorem wordsHalf (h : Fin 3) (b : Fin 2) : (Rect.unit (s := S3x512x4096) ![h.val, 256 * b.val, 0] S1x256x4096.size (inbHalf h b)).WholeWords (EltTy.packing .bf16) := by revert h b; decide

/-- Hop `h` of a landing buffer, its half `b`; the rectangle first, then the memref over it. -/
abbrev hopR (h : Fin 3) : Rect S3x512x4096 := Rect.unit (s := S3x512x4096) ![h.val, 0, 0] S1x512x4096.size (inbHop h)
abbrev halfR (h : Fin 3) (b : Fin 2) : Rect S3x512x4096 := Rect.unit (s := S3x512x4096) ![h.val, 256 * b.val, 0] S1x256x4096.size (inbHalf h b)
abbrev slotR (j : Fin 4) : Rect S4x256x2048 := Rect.unit (s := S4x256x2048) ![j.val, 0, 0] S1x256x2048.size (inbSlot j)
abbrev boxR (j : Fin 3) : Rect S3x8x128 := Rect.unit (s := S3x8x128) ![j.val, 0, 0] S1x8x128.size (inbBox j)
abbrev hopM (B : Memref sig .tc .vmem S3x512x4096 .bf16) (h : Fin 3) : Memref sig .tc .vmem S512x4096 .bf16 :=
  (B.slice (hopR h) (fun _ => rfl)).squeeze S512x4096 squeezes_S1x512x4096_S512x4096
abbrev halfM (B : Memref sig .tc .vmem S3x512x4096 .bf16) (h : Fin 3) (b : Fin 2) : Memref sig .tc .vmem S256x4096 .bf16 :=
  (B.slice (halfR h b) (fun _ => rfl)).squeeze S256x4096 squeezes_S1x256x4096_S256x4096
abbrev slotM (j : Fin 4) : Memref sig .tc .vmem S256x2048 .f32 := (stgM.slice (slotR j) (fun _ => rfl)).squeeze S256x2048 squeezes_S1x256x2048_S256x2048
abbrev bxM (j : Fin 3) : Memref sig .tc .vmem S8x128 .f32 := (bxsM.slice (boxR j) (fun _ => rfl)).squeeze S8x128 squeezes_S1x8x128_S8x128

/-- Where piece `i` of the output starts on device `d`: pieces 0..11 in the order the blocks are computed, then the four tails. -/
def outOff (d : Dev nD) : Fin 16 → Fin 2 → ℕ
  | 0 => k0_off1 d 0#32 | 1 => k0_off1 d 256#32
  | 2 => k0_off2 d 0#32 | 3 => k0_off2 d 256#32
  | 4 => k0_off3 d 1#32 0#32 | 5 => k0_off3 d 1#32 256#32
  | 6 => k0_off4 d 1#32 0#32 | 7 => k0_off4 d 1#32 256#32
  | 8 => k0_off3 d 2#32 0#32 | 9 => k0_off3 d 2#32 256#32
  | 10 => k0_off4 d 2#32 0#32 | 11 => k0_off4 d 2#32 256#32
  | 12 => k0_off5 d | 13 => k0_off6 d
  | 14 => k0_off3 d 3#32 256#32 | _ => k0_off4 d 3#32 256#32

theorem outInb : ∀ (d : Dev nD) (i : Fin 16), ∀ a, outOff d i a + S256x2048.size a ≤ S4096x2048.size a := by decide +kernel

abbrev outM (d : Dev nD) (i : Fin 16) : Memref sig .tc .hbm S256x2048 .f32 := oM.slice (Rect.unit (s := S4096x2048) (outOff d i) S256x2048.size (outInb d i)) (fun _ => rfl)

/-! ## The links -/

/-- One copy to another device: where it reads, where it lands, and its two semaphores. -/
structure Link where
  sh : Shape
  e : EltTy
  src : Memref sig .tc .vmem sh e
  dst : Memref sig .tc .vmem sh e
  hs : src.view.WordExact
  hd : dst.view.WordExact
  snd : DmaSem sig
  rcv : DmaSem sig

/-- The eleven copies: four to the right, four to the left, three of the maxima. -/
inductive Lk | r (j : Fin 4) | l (j : Fin 4) | a (j : Fin 3)
  deriving DecidableEq, Fintype

theorem wxHop (B : Memref sig .tc .vmem S3x512x4096 .bf16) (hB : B.IsWhole) (h : Fin 3) : (hopM B h).view.WordExact :=
  (hB.wordExact_slice rfl _ (wordsHop h)).reshape _ _
theorem wxHalf (B : Memref sig .tc .vmem S3x512x4096 .bf16) (hB : B.IsWhole) (h : Fin 3) (b : Fin 2) : (halfM B h b).view.WordExact :=
  (hB.wordExact_slice rfl _ (wordsHalf h b)).reshape _ _

/-- The four links of one direction of the ring: the own half, hop 0 on, and the two halves of hop 1 on. -/
def ring (A : Memref sig .tc .vmem S512x4096 .bf16) (hA : A.IsWhole) (B : Memref sig .tc .vmem S3x512x4096 .bf16) (hB : B.IsWhole) (S R : DmaSems sig S4) : Fin 4 → Link
  | 0 => ⟨_, _, A, hopM B 0, hA.wordExact, wxHop B hB 0, sem4 S 0, sem4 R 0⟩
  | 1 => ⟨_, _, hopM B 0, hopM B 1, wxHop B hB 0, wxHop B hB 1, sem4 S 1, sem4 R 1⟩
  | 2 => ⟨_, _, halfM B 1 0, halfM B 2 0, wxHalf B hB 1 0, wxHalf B hB 2 0, sem4 S 2, sem4 R 2⟩
  | 3 => ⟨_, _, halfM B 1 1, halfM B 2 1, wxHalf B hB 1 1, wxHalf B hB 2 1, sem4 S 3, sem4 R 3⟩

def lnk : Lk → Link
  | .r j => ring ownA (Memref.isWhole_whole _) comA (Memref.isWhole_whole _) cc0_scratch5 cc0_scratch6 j
  | .l j => ring ownB (Memref.isWhole_whole _) comB (Memref.isWhole_whole _) cc0_scratch7 cc0_scratch8 j
  | .a j => ⟨_, _, boxM, bxM j, (Memref.isWhole_whole _).wordExact, (View.wordExact_bits rfl).reshape _ _, sem3 cc0_scratch14 j, sem3 cc0_scratch15 j⟩

/-- The device a link of `d` goes to. -/
def dst (d : Dev nD) : Lk → Dev nD
  | .r 0 => ⟨k0_dev4 d, k0_dev4_lt d⟩ | .r 1 => ⟨k0_dev6 d, k0_dev6_lt d⟩
  | .r 2 => ⟨k0_dev8 d, k0_dev8_lt d⟩ | .r 3 => ⟨k0_dev9 d, k0_dev9_lt d⟩
  | .l 0 => ⟨k0_dev5 d, k0_dev5_lt d⟩ | .l 1 => ⟨k0_dev7 d, k0_dev7_lt d⟩
  | .l 2 => ⟨k0_dev10 d, k0_dev10_lt d⟩ | .l 3 => ⟨k0_dev11 d, k0_dev11_lt d⟩
  | .a 0 => ⟨k0_dev12 d, k0_dev12_lt d⟩ | .a 1 => ⟨k0_dev13 d, k0_dev13_lt d⟩ | .a 2 => ⟨k0_dev14 d, k0_dev14_lt d⟩

/-! ## The steps -/

abbrev PR (F : FTy → Type) [FloatOps F] (α : Type) := Prog (TpuEff nD τ sig (Elt F) Λ₀ .tc) α

/-- The barrier semaphore. -/
abbrev barS : Sem sig := (SemArray.scalar (sig.barrier 0 rfl) : Sems sig S_).sem

/-- Signal the three other devices and wait for their three signals. -/
def barrier (d : Dev nD) : PR F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- Copy both halves of `x` into the two own buffers. -/
def fetchX : PR F PUnit := do
  Prog.lift (.enqueueDma xHi (.here ownA) (.dma (sem2 cc0_scratch9 0)) ((Memref.isWhole_whole _).wordExact_slice rfl _ wordsbf16_S1024x4096_S512x4096_0_0) (Memref.isWhole_whole _).wordExact ⟨Or.inl rfl, trivial⟩)
  Prog.lift (.enqueueDma xLo (.here ownB) (.dma (sem2 cc0_scratch9 1)) ((Memref.isWhole_whole _).wordExact_slice rfl _ wordsbf16_S1024x4096_S512x4096_512_0) (Memref.isWhole_whole _).wordExact ⟨Or.inl rfl, trivial⟩)
  Prog.lift (.waitDma2 (sem2 cc0_scratch9 0) xHi ownA ((Memref.isWhole_whole _).wordExact_slice rfl _ wordsbf16_S1024x4096_S512x4096_0_0) (Memref.isWhole_whole _).wordExact)
  Prog.lift (.waitDma2 (sem2 cc0_scratch9 1) xLo ownB ((Memref.isWhole_whole _).wordExact_slice rfl _ wordsbf16_S1024x4096_S512x4096_512_0) (Memref.isWhole_whole _).wordExact)

def send (d : Dev nD) (k : Lk) : PR F PUnit :=
  Prog.lift (.enqueueDma (lnk k).src (.remote (Dev.tc (dst d k)) (lnk k).dst (.dma (lnk k).snd)) (.dma (lnk k).rcv) (lnk k).hs (lnk k).hd
    ⟨⟨rfl, Or.inl rfl⟩, trivial⟩)
def recv (k : Lk) : PR F PUnit := Prog.lift (.waitDma2 (lnk k).rcv (lnk k).src (lnk k).dst (lnk k).hs (lnk k).hd)
def sent (k : Lk) : PR F PUnit := Prog.lift (.waitDma2 (lnk k).snd (lnk k).dst (lnk k).src (lnk k).hd (lnk k).hs)

def readOwn (A : Memref sig .tc .vmem S512x4096 .bf16) : PR F (Vec F S512x4096 .bf16) :=
  Prog.lift (.load A (Rect.unit (s := S512x4096) ![0, 0] S512x4096.size inb_S512x4096_S512x4096_0_0).toLoadRect (View.loadsAt_vmem h_S512x4096))
def readHop (B : Memref sig .tc .vmem S3x512x4096 .bf16) (h : Fin 3) : PR F (Vec F S1x512x4096 .bf16) :=
  Prog.lift (.load B (hopR h).toLoadRect (View.loadsAt_vmem h_S1x512x4096))
def readHalf (B : Memref sig .tc .vmem S3x512x4096 .bf16) (b : Fin 2) : PR F (Vec F S1x256x4096 .bf16) :=
  Prog.lift (.load B (halfR 2 b).toLoadRect (View.loadsAt_vmem h_S1x256x4096))
def readW : PR F (Vec F S4096x2048 .bf16) :=
  Prog.lift (.load wM (Rect.unit (s := S4096x2048) ![0, 0] S4096x2048.size inb_S4096x2048_S4096x2048_0_0).toLoadRect (View.loadsAt_vmem h_S4096x2048))
def readBox (j : Fin 3) : PR F (Vec F S1x8x128 .f32) :=
  Prog.lift (.load bxsM (boxR j).toLoadRect (View.loadsAt_vmem h_S1x8x128))
def readSlot (j : Fin 4) : PR F (Vec F S1x256x2048 .f32) :=
  Prog.lift (.load stgM (slotR j).toLoadRect (View.loadsAt_vmem h_S1x256x2048))
/-- Overwrite slot `j`; the value it held is read first and dropped. -/
def putSlot (j : Fin 4) (v : Vec F S1x256x2048 .f32) : PR F PUnit := do
  let _ ← readSlot j
  Prog.lift (.store stgM (slotR j) v Finset.univ (View.stores_vmem_bits_univ h_S1x256x2048 rfl) (.inl rfl))
def putBox (v : Vec F S8x128 .f32) : PR F PUnit := do
  let _ ← (Prog.lift (.load boxM (Rect.unit (s := S8x128) ![0, 0] S8x128.size inb_S8x128_S8x128_0_0).toLoadRect (View.loadsAt_vmem h_S8x128)) : PR F (Vec F S8x128 .f32))
  Prog.lift (.store boxM (Rect.unit (s := S8x128) ![0, 0] S8x128.size inb_S8x128_S8x128_0_0) v Finset.univ (View.stores_vmem_bits_univ h_S8x128 rfl) (.inl rfl))

/-- Start storing slot `j` to piece `i`; wait for it; start loading slot `j` from piece `i`; wait for it. -/
def store (d : Dev nD) (j : Fin 4) (i : Fin 16) : PR F PUnit :=
  Prog.lift (.enqueueDma (slotM j) (.here (outM d i)) (.dma (sem4 cc0_scratch10 j)) ((View.wordExact_bits rfl).reshape _ _) (View.wordExact_bits rfl) ⟨Or.inl rfl, trivial⟩)
def stored (d : Dev nD) (j : Fin 4) (i : Fin 16) : PR F PUnit :=
  Prog.lift (.waitDma2 (sem4 cc0_scratch10 j) (slotM j) (outM d i) ((View.wordExact_bits rfl).reshape _ _) (View.wordExact_bits rfl))
def load (d : Dev nD) (j : Fin 4) (i : Fin 16) : PR F PUnit :=
  Prog.lift (.enqueueDma (outM d i) (.here (slotM j)) (.dma (sem4 cc0_scratch11 j)) (View.wordExact_bits rfl) ((View.wordExact_bits rfl).reshape _ _) ⟨Or.inl rfl, trivial⟩)
def loaded (d : Dev nD) (j : Fin 4) (i : Fin 16) : PR F PUnit :=
  Prog.lift (.waitDma2 (sem4 cc0_scratch11 j) (outM d i) (slotM j) (View.wordExact_bits rfl) ((View.wordExact_bits rfl).reshape _ _))

/-! ## What is computed -/

/-- The product of 512 rows with `w`, negatives cut to zero. -/
def prod5 (X : FVec F S512x4096 .bf16) (W : Vec F S4096x2048 .bf16) : FVec F S512x2048 .f32 :=
  maximumf (matmul dot_S512x4096_S4096x2048_S512x2048_1_0_0_1_n_n none X (shapeCast S4096x2048 W shapeCasts_S4096x2048_S4096x2048)
    (constant S512x2048 .f32 0x00000000#32)) (broadcast S512x2048 (Scalar.ofBits .f32 0x00000000#32))
/-- The product of 256 rows with `w`, negatives cut to zero. -/
def prod2 (X : FVec F S256x4096 .bf16) (W : Vec F S4096x2048 .bf16) : FVec F S256x2048 .f32 :=
  maximumf (matmul dot_S256x4096_S4096x2048_S256x2048_1_0_0_1_n_n none X (shapeCast S4096x2048 W shapeCasts_S4096x2048_S4096x2048)
    (constant S256x2048 .f32 0x00000000#32)) (broadcast S256x2048 (Scalar.ofBits .f32 0x00000000#32))
def top (Y : FVec F S512x2048 .f32) : FVec F S256x2048 .f32 := extractStridedSlice S256x2048 ![0, 0] Y slices_S512x2048_o0_0_S256x2048
def low (Y : FVec F S512x2048 .f32) : FVec F S256x2048 .f32 := extractStridedSlice S256x2048 ![256, 0] Y slices_S512x2048_o256_0_S256x2048
def up (Y : FVec F S256x2048 .f32) : FVec F S1x256x2048 .f32 := shapeCast S1x256x2048 Y shapeCasts_S256x2048_S1x256x2048
def down (Y : Vec F S1x256x2048 .f32) : FVec F S256x2048 .f32 := shapeCast S256x2048 Y shapeCasts_S1x256x2048_S256x2048
def max1 (v : FVec F S1 .f32) : F .f32 := extractAt ![0, 0, 0] (shapeCast S1x1x1 v shapeCasts_S1_S1x1x1) inpos_S1x1x1_p0_0_0
def max5 (Y : FVec F S512x2048 .f32) : F .f32 :=
  max1 (multiReduction .maximumf [1, 2] S1 (shapeCast S1x512x2048 Y shapeCasts_S512x2048_S1x512x2048) 0xFF800000#32 reduces_S1x512x2048_S1 (.inl rfl) rfl)
def max2 (Y : FVec F S256x2048 .f32) : F .f32 :=
  max1 (multiReduction .maximumf [1, 2] S1 (shapeCast S1x256x2048 Y shapeCasts_S256x2048_S1x256x2048) 0xFF800000#32 reduces_S1x256x2048_S1 (.inl rfl) rfl)
def max8 (v : Vec F S1x8x128 .f32) : F .f32 :=
  max1 (multiReduction .maximumf [1, 2] S1 (shapeCast S1x8x128 (shapeCast S8x128 v shapeCasts_S1x8x128_S8x128) shapeCasts_S8x128_S1x8x128) 0xFF800000#32 reduces_S1x8x128_S1 (.inl rfl) rfl)
def box (a : F .f32) : FVec F S8x128 .f32 := shapeCast S8x128 (broadcast S8x128 a) shapeCasts_S8x128_S8x128
/-- Quantise and rescale 256 rows, the device's scale and its inverse given. -/
def quant (s t : F .f32) (Y : FVec F S256x2048 .f32) : FVec F S256x2048 .f32 :=
  let v := minimumf (mulf Y (broadcast S256x2048 t)) (broadcast S256x2048 (Scalar.ofBits .f32 0x43E00000#32))
  let u := mulf v (broadcast S256x2048 (Scalar.ofBits .f32 0x49800008#32))
  mulf (subf u (subf u v)) (broadcast S256x2048 s)
def scaleOf (g : F .f32) : F .f32 := Scalar.divf g (Scalar.ofBits .f32 0x43E00000#32)
def invOf (g : F .f32) : F .f32 := Scalar.divf (Scalar.ofBits .f32 0x43E00000#32) g

/-! ## The body -/

/-- Multiply 512 rows into slots `j` and `j'` and start storing them to pieces `i` and `i'`. -/
def put5 (d : Dev nD) (j j' : Fin 4) (i i' : Fin 16) (Y : FVec F S512x2048 .f32) : PR F PUnit := do
  putSlot j (up (top Y))
  putSlot j' (up (low Y))
  store d j i
  store d j' i'

/-- A block of 512 rows of an own buffer: into two slots, then on to two pieces. -/
def blockOwn (d : Dev nD) (A : Memref sig .tc .vmem S512x4096 .bf16) (j j' : Fin 4) (i i' : Fin 16) : PR F (F .f32) := do
  let X ← readOwn A
  let W ← readW
  put5 d j j' i i' (prod5 X W)
  pure (max5 (prod5 X W))

/-- A block of 512 landed rows: once the slots' last stores (pieces `p`, `p'`) are done, into the two slots, then on to pieces `i`, `i'`. -/
def blockHop (d : Dev nD) (B : Memref sig .tc .vmem S3x512x4096 .bf16) (h : Fin 3) (j j' : Fin 4) (p p' i i' : Fin 16) : PR F (F .f32) := do
  let X ← readHop B h
  stored d j p
  stored d j' p'
  let W ← readW
  put5 d j j' i i' (prod5 (shapeCast S512x4096 X shapeCasts_S1x512x4096_S512x4096) W)
  pure (max5 (prod5 (shapeCast S512x4096 X shapeCasts_S1x512x4096_S512x4096) W))

/-- The last 256 rows of a direction: wait for them, and for slot `j`'s last store, multiply into the slot. -/
def tail (d : Dev nD) (k : Lk) (B : Memref sig .tc .vmem S3x512x4096 .bf16) (b : Fin 2) (j : Fin 4) (p : Fin 16) : PR F (F .f32) := do
  recv k
  let X ← readHalf B b
  stored d j p
  let W ← readW
  putSlot j (up (prod2 (shapeCast S256x4096 X shapeCasts_S1x256x4096_S256x4096) W))
  pure (max2 (prod2 (shapeCast S256x4096 X shapeCasts_S1x256x4096_S256x4096) W))

/-- Rescale slot `j` in place and start storing it to piece `i`. -/
def requant (d : Dev nD) (s t : F .f32) (j : Fin 4) (i : Fin 16) : PR F PUnit := do
  let Y ← readSlot j
  putSlot j (up (quant s t (down Y)))
  store d j i

/-- Step with a load ahead: the slot of piece `p`'s store is free again, piece `n` comes into it; meanwhile piece `i` is rescaled in slot `j`. -/
def stepL (d : Dev nD) (s t : F .f32) (j' : Fin 4) (p n : Fin 16) (j : Fin 4) (i : Fin 16) : PR F PUnit := do
  stored d j' p
  load d j' n
  loaded d j i
  requant d s t j i

/-- The last steps, with nothing left to load ahead. -/
def stepN (d : Dev nD) (s t : F .f32) (j' : Fin 4) (p : Fin 16) (j : Fin 4) (i : Fin 16) : PR F PUnit := do
  stored d j' p
  loaded d j i
  requant d s t j i

/-- The first part: the barrier, the own blocks, the two full hops. -/
def gather (d : Dev nD) : PR F (F .f32) := do
  barrier d
  fetchX
  send d (.r 0)
  send d (.l 0)
  let a0 ← blockOwn d ownA 0 1 0 1
  let a1 ← blockOwn d ownB 2 3 2 3
  recv (.r 0)
  recv (.l 0)
  send d (.r 1)
  send d (.l 1)
  let a2 ← blockHop d comA 0 0 1 0 1 4 5
  let a3 ← blockHop d comB 0 2 3 2 3 6 7
  recv (.r 1)
  recv (.l 1)
  send d (.r 2)
  send d (.r 3)
  send d (.l 2)
  send d (.l 3)
  let a4 ← blockHop d comA 1 0 1 4 5 8 9
  let a5 ← blockHop d comB 1 2 3 6 7 10 11
  let a6 ← tail d (.r 2) comA 0 0 8
  let a7 ← tail d (.l 2) comB 0 1 9
  let a8 ← tail d (.r 3) comA 1 2 10
  let a9 ← tail d (.l 3) comB 1 3 11
  pure (Scalar.maximumf (Scalar.maximumf (Scalar.maximumf (Scalar.maximumf (Scalar.maximumf (Scalar.maximumf (Scalar.maximumf (Scalar.maximumf
    (Scalar.maximumf a0 a1) a2) a3) a4) a5) a6) a7) a8) a9)

/-- The second part: the ring's sends are over, and the maxima are exchanged. -/
def exchange (d : Dev nD) (a : F .f32) : PR F (F .f32) := do
  sent (.r 0)
  sent (.r 1)
  sent (.r 2)
  sent (.r 3)
  sent (.l 0)
  sent (.l 1)
  sent (.l 2)
  sent (.l 3)
  putBox (box a)
  send d (.a 0)
  send d (.a 1)
  send d (.a 2)
  recv (.a 0)
  recv (.a 1)
  recv (.a 2)
  let b0 ← readBox 0
  let b1 ← readBox 1
  let b2 ← readBox 2
  pure (Scalar.maximumf (Scalar.maximumf (Scalar.maximumf a (max8 b0)) (max8 b1)) (max8 b2))

/-- The third part: every piece is rescaled. -/
def rescale (d : Dev nD) (s t : F .f32) : PR F PUnit := do
  requant d s t 0 12
  requant d s t 1 13
  requant d s t 2 14
  requant d s t 3 15
  stored d 0 12
  load d 0 0
  stored d 1 13
  load d 1 1
  stepL d s t 2 14 2 0 0
  stepL d s t 3 15 3 1 1
  stepL d s t 0 0 4 2 2
  stepL d s t 1 1 5 3 3
  stepL d s t 2 2 6 0 4
  stepL d s t 3 3 7 1 5
  stepL d s t 0 4 8 2 6
  stepL d s t 1 5 9 3 7
  stepL d s t 2 6 10 0 8
  stepL d s t 3 7 11 1 9
  stepN d s t 0 8 2 10
  stepN d s t 1 9 3 11
  stored d 2 10
  stored d 3 11

/-- The whole body. -/
def body : PR F PUnit := do
  let d ← Prog.lift .deviceId
  let a ← gather d
  let g ← exchange d a
  rescale d (scaleOf g) (invOf g)
  sent (.a 0)
  sent (.a 1)
  sent (.a 2)

/-- Two programs are equal when their first operations are and what follows them is. -/
theorem op_step.{u} {E : Type → Type u} {α β : Type} {P Q : Prog E α} (e : E β) (k k' : β → Prog E α)
    (h : P = .op e k) (h' : Q = .op e k') (hk : ∀ v, k v = k' v) : P = Q := by
  rw [h, h']; exact congrArg (Prog.op e) (funext hk)

set_option maxRecDepth 1000000 in
set_option maxHeartbeats 4000000 in
/-- The printed body is that program. -/
theorem body_eq : bodyAt0 (F := F) t0_0 = body := by
  iterate 227 (apply op_step; exact rfl; exact rfl; intro _)
  rfl

end Cert.Proof.KernelIdeal
end
end
-- ==== Proof.Common.lean ====
/- Ownership of memrefs: shares joined and split, squeezed views, a piece as its parts, parts glued together. -/
module

public import Idealize.ShloMosaic.Lib.Memref
public import Idealize.ShloMosaic.Lib.Pipeline.Value
public import Idealize.ShloMosaic.Lib.Pipeline.Kit
public import Idealize.ShloMosaic.Lib.ValueLayout
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {s : Shape} {e : EltTy}

/-- The elements at a value function determine the value function on the view. -/
theorem read_inj_on (v : View sig c.2.kind sp s e) {f g : v.ty.Contents Val} (h : v.read Val f = v.read Val g) :
    ∀ i ∈ v.set, f i = g i := by
  intro i hi
  rw [View.set, Finset.mem_map] at hi
  obtain ⟨x, -, rfl⟩ := hi
  have := congrFun h x
  simp only [View.read] at this
  exact (cast_inj _).mp this

/-- A memref owned at contents named by what the buffer reads is the points-to. -/
theorem owns_read (m : Memref sig c.2.kind sp s e) (q : PosShare TreeShare) (f : m.view.ty.Contents Val) :
    (owns c m q (m.view.read Val f) : sProp 𝕄) = (m.view.loc c ↦[m.view.set]{q} f) := by
  have h₁ : (owns c m q (m.view.read Val f) : sProp 𝕄) ⊢ (m.view.loc c ↦[m.view.set]{q} f) := by
    unfold owns
    iintro ⟨%g, %hg, H⟩
    have e : (m.view.loc c ↦[m.view.set]{q} g : sProp 𝕄) = (m.view.loc c ↦[m.view.set]{q} f) :=
      pointsTo_congr (read_inj_on c m.view hg)
    rw [← e]
    iexact H
  exact BI.equiv_iff.mp ⟨h₁, owns_intro c m q f⟩

/-- Some contents are read as any given function. -/
theorem owns_elim (m : Memref sig c.2.kind sp s e) (q : PosShare TreeShare) (X : s.Idx → Val e) :
    (owns c m q X : sProp 𝕄) ⊢ iprop(∃ f, ⌜m.view.read Val f = X⌝ ∗ (m.view.loc c ↦[m.view.set]{q} f)) := .rfl

/-- A memref owned is owned half and half. -/
theorem owns_share (m : Memref sig c.2.kind sp s e) (q : PosShare TreeShare) (X : s.Idx → Val e) :
    (owns c m q X : sProp 𝕄) ⊢ iprop(owns c m q.left X ∗ owns c m q.right X) := by
  iintro H
  ihave H' := (owns_elim c m q X) $$ H
  icases H' with ⟨%f, %hf, H⟩
  subst hf
  rw [owns_read c m q.left, owns_read c m q.right]
  ihave J := (pointsTo_share (PosShare.mem_left_op_right q)).1 $$ H
  iexact J

/-- The two halves make the whole, -/
theorem owns_unshare (m : Memref sig c.2.kind sp s e) (q : PosShare TreeShare) (X : s.Idx → Val e) :
    iprop(owns c m q.left X ∗ owns c m q.right X) ⊢ (owns c m q X : sProp 𝕄) := by
  iintro ⟨H, K⟩
  ihave H' := (owns_elim c m q.left X) $$ H
  icases H' with ⟨%f, %hf, H⟩
  subst hf
  ihave K := (Entails.of_eq (owns_read c m q.right f)) $$ K
  rw [owns_read c m q]
  ihave J := (pointsTo_share (PosShare.mem_left_op_right q)).2 $$ [H K]
  · isplitl [H]; · iexact H
    iexact K
  iexact J

/-- A squeezed memref owned is the memref owned at the contents cast back. -/
theorem owns_squeeze (m : Memref sig c.2.kind sp s e) (s' : Shape) (h : s.Squeezes s') (q : PosShare TreeShare) (X : s'.Idx → Val e) :
    (owns c (m.squeeze s' h) q X : sProp 𝕄) = owns c m q (shapeCast s X h.numel_eq.symm) := by
  have hrd : ∀ f : m.view.ty.Contents Val, (m.squeeze s' h).view.read Val f = shapeCast s' (m.view.read Val f) h.numel_eq := fun _ => rfl
  have hset : (m.squeeze s' h).view.set = m.view.set := View.set_reshape _ _
  have h₁ : (owns c (m.squeeze s' h) q X : sProp 𝕄) ⊢ owns c m q (shapeCast s X h.numel_eq.symm) := by
    iintro H
    ihave H' := (owns_elim c (m.squeeze s' h) q X) $$ H
    icases H' with ⟨%f, %hf, H⟩
    have hX : shapeCast s X h.numel_eq.symm = m.view.read Val f := by
      rw [← hf, hrd, shapeCast_shapeCast]
    rw [hX, owns_read, ← hset]
    iexact H
  have h₂ : (owns c m q (shapeCast s X h.numel_eq.symm) : sProp 𝕄) ⊢ owns c (m.squeeze s' h) q X := by
    iintro H
    ihave H' := (owns_elim c m q _) $$ H
    icases H' with ⟨%f, %hf, H⟩
    have hX : X = (m.squeeze s' h).view.read Val f := by
      rw [hrd, hf, shapeCast_shapeCast]
    rw [hX, owns_read, hset]
    iexact H
  exact BI.equiv_iff.mp ⟨h₁, h₂⟩

section Parts

variable (B : Memref sig c.2.kind sp s e) (q : PosShare TreeShare) {T : Type} [Fintype T] [DecidableEq T]
  (r : Rect s) (hr : ∀ a, r.stride a = 1) (rs : T → Rect s) (hrs : ∀ t a, (rs t).stride a = 1)
  (hd : ∀ t t', t ≠ t' → Disjoint (rs t).set (rs t').set)
  (hcov : (Finset.univ : Finset T).biUnion (fun t => (rs t).set) = r.set)
include hd hcov

omit [DecidableEq T] in
/-- A slice owned at its part of `X` is every part of it owned at its part of `X`, -/
theorem owns_parts (X : s.Idx → Val e) :
    (owns c (B.slice r hr) q (fun j => X (r.emb j)) : sProp 𝕄)
      ⊢ BI.bigSep Finset.univ fun t => owns c (B.slice (rs t) (hrs t)) q (fun j => X ((rs t).emb j)) := by
  iintro H
  ihave H' := (owns_elim c (B.slice r hr) q _) $$ H
  icases H' with ⟨%f, %hf, H⟩
  have hX : ∀ t, (fun j => X ((rs t).emb j)) = fun j => B.view.read Val f ((rs t).emb j) := by
    intro t; funext j
    have hm : (rs t).emb j ∈ r.set := hcov ▸ Finset.mem_biUnion.mpr
      ⟨t, Finset.mem_univ _, (rs t).map_emb_univ ▸ Finset.mem_map_of_mem _ (Finset.mem_univ j)⟩
    rw [← Rect.map_emb_univ, Finset.mem_map] at hm
    obtain ⟨i, -, hi⟩ := hm
    have := congrFun hf i
    rw [← hi]; exact this.symm
  have hs : (B.slice r hr).view.set = (Finset.univ : Finset T).biUnion fun t => (B.view.slice (rs t)).set := by
    show (B.view.slice r).set = _
    simp only [View.set_slice]
    rw [← hcov]
    ext i; simp only [Finset.mem_map, Finset.mem_biUnion]
    constructor
    · rintro ⟨x, ⟨t, ht, hx⟩, rfl⟩; exact ⟨t, ht, x, hx, rfl⟩
    · rintro ⟨t, ht, x, hx, rfl⟩; exact ⟨x, ⟨t, ht, hx⟩, rfl⟩
  rw [hs, pointsTo_biUnion _ _ (fun t _ t' _ htt => by
    rw [View.set_slice, View.set_slice]; exact (Finset.disjoint_map _).mpr (hd t t' htt)),
    BI.bigSep_congr (fun t _ => ((congrArg (owns c (B.slice (rs t) (hrs t)) q) (hX t)).trans
      (owns_slice_read c B q (rs t) (hrs t) f)))]
  exact .rfl

/-- and the parts, at any contents, make the slice, at contents that agree with each. -/
theorem owns_glue [∀ e, Nonempty (Val e)] (Y : ∀ t, (rs t).shape.Idx → Val e) :
    (BI.bigSep Finset.univ fun t => owns c (B.slice (rs t) (hrs t)) q (Y t))
      ⊢ (iprop(∃ X : s.Idx → Val e, ⌜∀ t j, X ((rs t).emb j) = Y t j⌝ ∗ owns c (B.slice r hr) q (fun j => X (r.emb j))) : sProp 𝕄) := by
  classical
  have hinj : Function.Injective (fun p : (t : T) × (rs t).shape.Idx => (rs p.1).emb p.2) := by
    rintro ⟨t, j⟩ ⟨t', j'⟩ h
    have hm : ∀ t j, (rs t).emb j ∈ (rs t).set := fun t j => (rs t).map_emb_univ ▸ Finset.mem_map_of_mem _ (Finset.mem_univ j)
    by_cases htt : t = t'
    · subst htt; exact congrArg (Sigma.mk t) ((rs t).emb.injective h)
    · exact absurd (show (rs t).emb j ∈ (rs t').set from (show (rs t).emb j = (rs t').emb j' from h) ▸ hm t' j')
        (Finset.disjoint_left.mp (hd t t' htt) (hm t j))
  let X : s.Idx → Val e := Function.extend (fun p : (t : T) × (rs t).shape.Idx => (rs p.1).emb p.2) (fun p => Y p.1 p.2)
    (fun _ => Classical.arbitrary _)
  have hX : ∀ t j, X ((rs t).emb j) = Y t j := fun t j => hinj.extend_apply (fun p => Y p.1 p.2) _ ⟨t, j⟩
  have hY : ∀ t, Y t = fun j => X ((rs t).emb j) := fun t => funext fun j => (hX t j).symm
  rw [BI.bigSep_congr (fun t _ => congrArg (owns c (B.slice (rs t) (hrs t)) q) (hY t))]
  iintro H
  iexists X
  isplitr
  · ipureintro; exact hX
  ihave H' := (owns_rects_join c B q rs hrs hd X Finset.univ) $$ H
  icases H' with ⟨%g, %hg, H⟩
  have hs : (B.slice r hr).view.set = (Finset.univ : Finset T).biUnion fun t => (B.view.slice (rs t)).set := by
    show (B.view.slice r).set = _
    simp only [View.set_slice]
    rw [← hcov]
    ext i; simp only [Finset.mem_map, Finset.mem_biUnion]
    constructor
    · rintro ⟨x, ⟨t, ht, hx⟩, rfl⟩; exact ⟨t, ht, x, hx, rfl⟩
    · rintro ⟨t, ht, x, hx, rfl⟩; exact ⟨x, ⟨t, ht, hx⟩, rfl⟩
  have hread : (fun j => X (r.emb j)) = (B.slice r hr).view.read Val g := by
    funext j
    have hm : r.emb j ∈ (Finset.univ : Finset T).biUnion fun t => (rs t).set :=
      hcov ▸ r.map_emb_univ ▸ Finset.mem_map_of_mem _ (Finset.mem_univ j)
    obtain ⟨t, ht, hm⟩ := Finset.mem_biUnion.mp hm
    rw [← Rect.map_emb_univ, Finset.mem_map] at hm
    obtain ⟨i, -, hi⟩ := hm
    have := hg t ht i
    rw [hi] at this
    exact this.symm
  rw [hread, owns_read, hs]
  iexact H

end Parts

end Cert.Proof
-- ==== Proof.Ideal.Protocol.lean ====
/- The kernel's protocol: who copies onto whom, what each landing hands over, what each device owes, the levels of the waits. -/
module

public import proofs.«01_k».proof.Proof.Ideal.Program
public import proofs.«01_k».proof.Proof.Common
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's rounds, the kernel's rounds (duties `Fin 3`), the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-- A program run on device `c`'s core, to a postcondition. -/
abbrev WP {α : Type} (c : Dev nD) (p : PR F α) (Q : α → sProp 𝕄) : sProp 𝕄 :=
  wp frame (wpE (defs₀ (F := F)) 𝒱₀ (c : Thread nD τ) none) Set.univ p Q

/-! ## The ring -/

def nxt (c : Dev nD) : Dev nD := ⟨(c.val + 1) % nD, Nat.mod_lt _ (by decide)⟩
def opp (c : Dev nD) : Dev nD := ⟨(c.val + 2) % nD, Nat.mod_lt _ (by decide)⟩
def prv (c : Dev nD) : Dev nD := ⟨(c.val + 3) % nD, Nat.mod_lt _ (by decide)⟩

theorem prv_nxt (c : Dev nD) : prv (nxt c) = c := by revert c; decide
theorem nxt_prv (c : Dev nD) : nxt (prv c) = c := by revert c; decide
theorem opp_opp (c : Dev nD) : opp (opp c) = c := by revert c; decide
theorem prv_prv (c : Dev nD) : prv (prv c) = opp c := by revert c; decide
theorem nxt_nxt (c : Dev nD) : nxt (nxt c) = opp c := by revert c; decide

/-- Where a link of `c` goes, and where the one that lands on `c` comes from. -/
def tgt (c : Dev nD) : Lk → Dev nD
  | .r _ => nxt c | .l _ => prv c | .a 0 => nxt c | .a 1 => opp c | .a 2 => prv c
def frm (c : Dev nD) : Lk → Dev nD
  | .r _ => prv c | .l _ => nxt c | .a 0 => prv c | .a 1 => opp c | .a 2 => nxt c

theorem frm_tgt (c : Dev nD) (k : Lk) : frm (tgt c k) k = c := by revert c k; decide
theorem tgt_frm (c : Dev nD) (k : Lk) : tgt (frm c k) k = c := by revert c k; decide

theorem dst_eq (c : Dev nD) (k : Lk) : dst c k = tgt c k := by
  rcases k with j | j | j <;> fin_cases j
  · exact Fin.ext (k0_dev4_eq c)
  · exact Fin.ext (k0_dev6_eq c)
  · exact Fin.ext (k0_dev8_eq c)
  · exact Fin.ext (k0_dev9_eq c)
  · exact Fin.ext (k0_dev5_eq c)
  · exact Fin.ext (k0_dev7_eq c)
  · exact Fin.ext (k0_dev10_eq c)
  · exact Fin.ext (k0_dev11_eq c)
  · exact Fin.ext (k0_dev12_eq c)
  · exact Fin.ext (k0_dev13_eq c)
  · exact Fin.ext (k0_dev14_eq c)

theorem dev1_eq (c : Dev nD) : (⟨k0_dev1 c, k0_dev1_lt c⟩ : Dev nD) = nxt c := Fin.ext (k0_dev1_eq c)
theorem dev2_eq (c : Dev nD) : (⟨k0_dev2 c, k0_dev2_lt c⟩ : Dev nD) = opp c := Fin.ext (k0_dev2_eq c)
theorem dev3_eq (c : Dev nD) : (⟨k0_dev3 c, k0_dev3_lt c⟩ : Dev nD) = prv c := Fin.ext (k0_dev3_eq c)

/-! ## The cells -/

/-- A device's cells under the protocol: the barrier's, and each link's two. -/
inductive Cl | bar | snd (k : Lk) | rcv (k : Lk)
  deriving DecidableEq, Fintype

def csem : Cl → SemLoc sig
  | .bar => .reg barS | .snd k => .dma (lnk k).snd | .rcv k => .dma (lnk k).rcv

theorem csem_inj : Function.Injective csem := by
  have h : ∀ i i', csem i = csem i' → i = i' := by decide +kernel
  exact fun i i' => h i i'

abbrev cell (c : Dev nD) (i : Cl) : GSem nD τ sig := ((c : Thread nD τ), csem i)

open Classical in
/-- Which cell of the protocol a semaphore is, if any. -/
def clOf (sm : SemLoc sig) : Option Cl := if h : ∃ i, csem i = sm then some h.choose else none

theorem clOf_csem (i : Cl) : clOf (csem i) = some i := by
  have h : ∃ i', csem i' = csem i := ⟨i, rfl⟩
  unfold clOf
  rw [dif_pos h]
  exact congrArg some (csem_inj h.choose_spec)

theorem clOf_none {sm : SemLoc sig} (h : ∀ i, csem i ≠ sm) : clOf sm = none := by
  unfold clOf
  exact dif_neg fun ⟨i, hi⟩ => h i hi

/-- The credit of a link. -/
def N (k : Lk) : ℕ := (lnk k).dst.view.dmaCredit
theorem N_pos (k : Lk) : 0 < N k := by
  unfold N
  refine View.dmaCredit_pos _ ?_
  revert k; decide +kernel
theorem N_src (k : Lk) : (lnk k).src.view.dmaCredit = N k := by
  rcases k with j | j | j <;> fin_cases j <;> rfl

/-! ## Contents -/

/-- The upper and the lower 512 rows of `c`'s block of `x`, and the block of `w`. -/
def topX (c : Dev nD) : FVec F S512x4096 .bf16 := xHi.view.read (Elt F) (m ((c : Thread nD τ).loc main_arg0))
def botX (c : Dev nD) : FVec F S512x4096 .bf16 := xLo.view.read (Elt F) (m ((c : Thread nD τ).loc main_arg0))

theorem inbRows (b : Fin 2) : ∀ a, (![256 * b.val, 0] : Fin 2 → ℕ) a + S256x4096.size a ≤ S512x4096.size a := by revert b; decide
abbrev rowsR (b : Fin 2) : Rect S512x4096 := Rect.unit (s := S512x4096) ![256 * b.val, 0] S256x4096.size (inbRows b)
/-- The upper (0) or lower (1) 256 rows of 512. -/
def half (b : Fin 2) (X : FVec F S512x4096 .bf16) : FVec F S256x4096 .bf16 := fun j => X ((rowsR b).emb j)

/-- The block of `w` the staging buffer holds. -/
def wX (c : Dev nD) : Vec F S4096x2048 .bf16 := (win0_0.blk (0 : Fin 1)).view.read (Elt F) (m ((c : Thread nD τ).loc main_arg1))

/-- The blocks of the product on `c`, piece by piece of the output. -/
def blk5 (c : Dev nD) (X : FVec F S512x4096 .bf16) : FVec F S512x2048 .f32 := prod5 X (wX m c)
def blk2 (c : Dev nD) (X : FVec F S256x4096 .bf16) : FVec F S256x2048 .f32 := prod2 X (wX m c)

def piece (c : Dev nD) : Fin 16 → FVec F S256x2048 .f32
  | 0 => top (blk5 m c (topX m c)) | 1 => low (blk5 m c (topX m c))
  | 2 => top (blk5 m c (botX m c)) | 3 => low (blk5 m c (botX m c))
  | 4 => top (blk5 m c (topX m (prv c))) | 5 => low (blk5 m c (topX m (prv c)))
  | 6 => top (blk5 m c (botX m (nxt c))) | 7 => low (blk5 m c (botX m (nxt c)))
  | 8 => top (blk5 m c (topX m (prv (prv c)))) | 9 => low (blk5 m c (topX m (prv (prv c))))
  | 10 => top (blk5 m c (botX m (nxt (nxt c)))) | 11 => low (blk5 m c (botX m (nxt (nxt c))))
  | 12 => blk2 m c (half 0 (topX m (prv (prv (prv c))))) | 13 => blk2 m c (half 0 (botX m (nxt (nxt (nxt c)))))
  | 14 => blk2 m c (half 1 (topX m (prv (prv (prv c))))) | _ => blk2 m c (half 1 (botX m (nxt (nxt (nxt c)))))

/-- The device's own maximum, in the order the kernel takes it. -/
def own (c : Dev nD) : F .f32 :=
  Scalar.maximumf (Scalar.maximumf (Scalar.maximumf (Scalar.maximumf (Scalar.maximumf (Scalar.maximumf (Scalar.maximumf (Scalar.maximumf
    (Scalar.maximumf (max5 (blk5 m c (topX m c))) (max5 (blk5 m c (botX m c)))) (max5 (blk5 m c (topX m (prv c))))) (max5 (blk5 m c (botX m (nxt c)))))
    (max5 (blk5 m c (topX m (prv (prv c)))))) (max5 (blk5 m c (botX m (nxt (nxt c)))))) (max2 (piece m c 12))) (max2 (piece m c 13))) (max2 (piece m c 14)))
    (max2 (piece m c 15))

/-- What a link of `c` carries. -/
def carried (c : Dev nD) : (k : Lk) → (lnk k).sh.Idx → Elt F (lnk k).e
  | .r 0 => topX m c | .r 1 => topX m (prv c) | .r 2 => half 0 (topX m (prv (prv c))) | .r 3 => half 1 (topX m (prv (prv c)))
  | .l 0 => botX m c | .l 1 => botX m (nxt c) | .l 2 => half 0 (botX m (nxt (nxt c))) | .l 3 => half 1 (botX m (nxt (nxt c)))
  | .a _ => box (own m c)

/-- The share of its source a link lends: half, the maxima's buffer in three. -/
def qS : Lk → PosShare TreeShare
  | .a 0 => fullShare.left | .a 1 => fullShare.right.left | .a 2 => fullShare.right.right
  | _ => fullShare.right

/-! ## The schedule -/

/-- The place a link lands in on `p`, at any contents. -/
def land (p : Dev nD) (k : Lk) : sProp 𝕄 := iprop(∃ X, owns (p : Thread nD τ) (lnk k).dst fullShare X)

/-- What each of the three signals to `c`'s barrier hands it: the places on the signalling device that `c`'s links land in. -/
def barPay (c : Dev nD) : Fin 3 → sProp 𝕄
  | 0 => iprop(land (prv c) (.l 0) ∗ land (prv c) (.l 1) ∗ land (prv c) (.l 2) ∗ land (prv c) (.l 3) ∗ land (prv c) (.a 2))
  | 1 => land (opp c) (.a 1)
  | 2 => iprop(land (nxt c) (.r 0) ∗ land (nxt c) (.r 1) ∗ land (nxt c) (.r 2) ∗ land (nxt c) (.r 3) ∗ land (nxt c) (.a 0))
def sndPay (c : Dev nD) (k : Lk) : sProp 𝕄 := owns (c : Thread nD τ) (lnk k).src (qS k) (carried m c k)
def rcvPay (c : Dev nD) (k : Lk) : sProp 𝕄 := owns (c : Thread nD τ) (lnk k).dst fullShare (carried m (frm c k) k)

def payOf (c : Dev nD) (d : Fin 3) : Option Cl → sProp 𝕄
  | some .bar => barPay c d | some (.snd k) => sndPay m c k | some (.rcv k) => rcvPay m c k | none => iprop(emp)
def dutOf : Option Cl → Finset (Fin 3)
  | some .bar => Finset.univ | some _ => {0} | none => ∅
def amtOf : Option Cl → ℕ
  | some (.snd k) => N k | some (.rcv k) => N k | _ => 1

theorem amtOf_pos (o : Option Cl) : 0 < amtOf o := by
  rcases o with _ | i
  · exact Nat.one_pos
  · cases i
    · exact Nat.one_pos
    · exact N_pos _
    · exact N_pos _

/-- One round: a barrier cell has three duties of one unit, a send or receive cell one of its link's credit. -/
def Rd : Rounds.Schedule (GSem nD τ sig) (Fin 3) 𝕄 where
  duties g r := if r = 0 ∧ g.1.2 = .tc then dutOf (clOf g.2) else ∅
  unitless _ := False
  amount g _ _ := amtOf (clOf g.2)
  payload g _ d := payOf m g.1.1 d (clOf g.2)
  amount_pos g _ _ _ := amtOf_pos _

instance land_storable (p : Dev nD) (k : Lk) : BI.Storable (upEmb : UEmb _ 𝕄) (land (F := F) p k) := by unfold land; infer_instance

instance Rd_payload_storable (g : GSem nD τ sig) (r : ℕ) (d : Fin 3) :
    BI.Storable (upEmb : UEmb _ 𝕄) ((Rd (F := F) m).payload g r d) := by
  show BI.Storable upEmb (payOf m g.1.1 d (clOf g.2))
  rcases clOf g.2 with _ | i
  · unfold payOf; infer_instance
  · cases i
    · fin_cases d <;> (simp only [payOf]; unfold barPay; infer_instance)
    · simp only [payOf]; unfold sndPay; infer_instance
    · simp only [payOf]; unfold rcvPay; infer_instance

section Sched
variable (c : Dev nD) (k : Lk)

theorem duties_cell (i : Cl) : (Rd (F := F) m).duties (cell c i) 0 = dutOf (some i) := by
  show (if 0 = 0 ∧ (c : Thread nD τ).2 = .tc then dutOf (clOf (csem i)) else ∅) = _
  rw [if_pos ⟨rfl, rfl⟩, clOf_csem]
theorem duties_later (g : GSem nD τ sig) : ∀ r, 1 ≤ r → (Rd (F := F) m).duties g r = ∅ :=
  fun r hr => by dsimp only [Rd]; rw [if_neg fun h => by omega]
theorem amount_cell (i : Cl) (d : Fin 3) : (Rd (F := F) m).amount (cell c i) 0 d = amtOf (some i) := by
  show amtOf (clOf (csem i)) = _
  rw [clOf_csem]
theorem payload_cell (i : Cl) (d : Fin 3) : (Rd (F := F) m).payload (cell c i) 0 d = payOf m c d (some i) := by
  show payOf m c d (clOf (csem i)) = _
  rw [clOf_csem]
theorem expect_bar : (Rd (F := F) m).expect (cell c .bar) 0 = 3 := by
  unfold Schedule.expect Schedule.amountOf
  rw [duties_cell, Finset.sum_congr rfl fun d _ => amount_cell m c .bar d]; rfl
theorem expect_snd : (Rd (F := F) m).expect (cell c (.snd k)) 0 = N k := by
  unfold Schedule.expect Schedule.amountOf
  rw [duties_cell]; unfold dutOf; rw [Finset.sum_singleton, amount_cell]; rfl
theorem expect_rcv : (Rd (F := F) m).expect (cell c (.rcv k)) 0 = N k := by
  unfold Schedule.expect Schedule.amountOf
  rw [duties_cell]; unfold dutOf; rw [Finset.sum_singleton, amount_cell]; rfl

/-- What the whole round of a cell hands over. -/
theorem rest_bar : bigSep ((Rd (F := F) m).duties (cell c .bar) 0 \ ∅) (fun d => (Rd (F := F) m).payload (cell c .bar) 0 d)
    = iprop(barPay c 0 ∗ barPay c 1 ∗ barPay c 2) := by
  rw [Finset.sdiff_empty, duties_cell, bigSep_congr (fun d _ => payload_cell m c .bar d)]
  show bigSep Finset.univ (fun d => barPay c d) = _
  rw [bigSep_univ_eq_bigSepL [0, 1, 2] (by decide) (by decide), bigSepL_cons_cons, bigSepL_cons_cons, bigSepL_singleton]; rfl
theorem rest_snd : bigSep ((Rd (F := F) m).duties (cell c (.snd k)) 0 \ ∅) (fun d => (Rd (F := F) m).payload (cell c (.snd k)) 0 d)
    = sndPay m c k := by
  rw [Finset.sdiff_empty, duties_cell]; unfold dutOf; rw [bigSep_singleton, payload_cell]; rfl
theorem rest_rcv : bigSep ((Rd (F := F) m).duties (cell c (.rcv k)) 0 \ ∅) (fun d => (Rd (F := F) m).payload (cell c (.rcv k)) 0 d)
    = rcvPay m c k := by
  rw [Finset.sdiff_empty, duties_cell]; unfold dutOf; rw [bigSep_singleton, payload_cell]; rfl

end Sched

/-! ## What is owed; the levels -/

/-- The receive credits device `c` still owes: those of the links it has not sent yet. -/
def Orem (c : Dev nD) : List Lk → CellTallies nD τ sig Unit
  | [] => 0
  | k :: S => Orem c S + tallyAt (cell (tgt c k) (.rcv k)) () (N k)

/-- The order of the sends. -/
def order : List Lk := [.r 0, .l 0, .r 1, .l 1, .r 2, .r 3, .l 2, .l 3, .a 0, .a 1, .a 2]

/-- All that is owed: the barrier's three units first. -/
def O₂ (c : Dev nD) : CellTallies nD τ sig Unit := Orem c order + tallyAt (cell (prv c) .bar) () 1
def O₁ (c : Dev nD) : CellTallies nD τ sig Unit := O₂ c + tallyAt (cell (opp c) .bar) () 1
def O₀ (c : Dev nD) : CellTallies nD τ sig Unit := O₁ c + tallyAt (cell (nxt c) .bar) () 1

def lvl : Lk → ℕ
  | .r 0 => 2 | .l 0 => 2 | .r 1 => 3 | .l 1 => 3 | .r _ => 4 | .l _ => 4 | .a _ => 5
def lvOf : Option Cl → ℕ
  | some .bar => 1 | some (.rcv k) => lvl k | _ => 0

def L (g : GSem nD τ sig) : Finset Unit := if g.1.2 = .tc then {()} else ∅
def lv (g : GSem nD τ sig) (_ : Unit) : ℕ := lvOf (clOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Cl) (u : Unit) : lv (cell c i) u = lvOf (some i) := congrArg lvOf (clOf_csem i)

theorem tally_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h
  omega

theorem Orem_pos {c : Dev nD} {S : List Lk} {g : GSem nD τ sig} {u : Unit} (h : 0 < Orem c S g u) : ∃ k ∈ S, g = cell (tgt c k) (.rcv k) := by
  induction S with
  | nil => exact absurd h (Nat.lt_irrefl 0)
  | cons k S ih =>
    rcases add_pos_or h with h | h
    · obtain ⟨k', hk, e⟩ := ih h; exact ⟨k', List.mem_cons_of_mem _ hk, e⟩
    · exact ⟨k, List.mem_cons_self, tally_pos h⟩

theorem O₀_pos {c : Dev nD} {g : GSem nD τ sig} {u : Unit} (h : 0 < O₀ c g u) : ∃ d i, g = cell d i ∧ 0 < lvOf (some i) := by
  have hl : ∀ k, 0 < lvl k := by decide
  rcases add_pos_or h with h | h
  · rcases add_pos_or h with h | h
    · rcases add_pos_or h with h | h
      · obtain ⟨k, -, e⟩ := Orem_pos h; exact ⟨_, _, e, hl k⟩
      · exact ⟨_, _, tally_pos h, Nat.one_pos⟩
    · exact ⟨_, _, tally_pos h, Nat.one_pos⟩
  · exact ⟨_, _, tally_pos h, Nat.one_pos⟩

/-- A wait on a cell below every link still owed. -/
theorem mayWait (c : Dev nD) (sm : SemLoc sig) (S : List Lk) (h : ∀ k ∈ S, lvOf (clOf sm) < lvl k) :
    (levAts L lv : sProp 𝕄) ⊢ MayWait (c : Thread nD τ) sm () (Orem c S) :=
  MayOwe.of_cut (L := L) (lev := lv) (lvOf (clOf sm)) (fun p hp => by rw [Finset.mem_singleton.mp hp, L_tc]; exact Finset.mem_singleton_self _)
    (fun g u hg => by obtain ⟨k, -, rfl⟩ := Orem_pos hg; exact Finset.mem_singleton_self _)
    (fun p hp => by rw [Finset.mem_singleton.mp hp]; exact le_refl _)
    (fun g u hg => by obtain ⟨k, hk, rfl⟩ := Orem_pos hg; rw [lv_cell]; exact h k hk)

/-- A wait on a cell outside the protocol (a staging or local copy's), whatever is owed. -/
theorem mayWait_stage (c : Dev nD) (sm : SemLoc sig) (hs : clOf sm = none) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by obtain ⟨d, i, rfl, -⟩ := O₀_pos hg; exact Finset.mem_singleton_self _)
      (fun p hp => by rw [Finset.mem_singleton.mp hp]; exact le_of_eq (congrArg lvOf hs))
      (fun g u hg => by obtain ⟨d, i, rfl, hi⟩ := O₀_pos hg; rw [lv_cell]; exact hi)
  · rw [MayWait_zero]; iintro -; iempintro

end Cert.Proof.KernelIdeal
-- ==== Proof.Ideal.Steps.lean ====
/- The rules of the kernel's steps: signals, copies to other devices and their waits, local copies and their waits, loads and stores. -/
module

public import proofs.«01_k».proof.Proof.Ideal.Protocol

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ)

theorem lift_bind {α β : Type} (e : TpuEff nD τ sig (Elt F) Λ₀ .tc α) (k : α → PR F β) : (Prog.lift e >>= k) = Prog.op e k := by
  simp only [Prog.lift, Prog.bind_op, Prog.bind_ret]

/-- What every device knows: the cells' invariants, that each is at its round, the levels. -/
def records : sProp 𝕄 :=
  iprop((bigSep Finset.univ fun p : Dev nD × Cl => iprop(cellInv ER (Rd m) (K p) (cell p.1 p.2) ∗ reached ER (cell p.1 p.2) 0)) ∗ levAts L lv)

instance records_persistent : BI.Persistent (records m K) := by unfold records; infer_instance

theorem records_cell (c : Dev nD) (i : Cl) : records m K ⊢ iprop(cellInv ER (Rd m) (K (c, i)) (cell c i) ∗ reached ER (cell c i) 0) := by
  unfold records
  iintro ⟨#H, -⟩
  iapply (show (bigSep Finset.univ fun p : Dev nD × Cl => iprop(cellInv ER (Rd m) (K p) (cell p.1 p.2) ∗ reached ER (cell p.1 p.2) 0))
      ⊢ iprop(cellInv ER (Rd m) (K (c, i)) (cell c i) ∗ reached ER (cell c i) 0) from bigSep_elim (Finset.mem_univ (c, i))) $$ H

theorem records_inv (c : Dev nD) (i : Cl) : records m K ⊢ cellInv ER (Rd m) (K (c, i)) (cell c i) := by
  iintro H
  ihave H := (records_cell m K c i) $$ H
  icases H with ⟨H, -⟩
  iexact H
theorem records_reached (c : Dev nD) (i : Cl) : records m K ⊢ reached ER (cell c i) 0 := by
  iintro H
  ihave H := (records_cell m K c i) $$ H
  icases H with ⟨-, H⟩
  iexact H
theorem records_lev : records m K ⊢ levAts L lv := by
  unfold records
  iintro ⟨-, #H⟩
  iexact H

/-- What device `c` still owes, after some waits. -/
def owe (c : Dev nD) (S : List Lk) : sProp 𝕄 := iprop(∃ W, owes (c : Thread nD τ) (Orem c S) W)

/-! ## Links -/

/-- What sending along a link takes besides the source and the place it lands in: the two duties. -/
def toks (c : Dev nD) (k : Lk) : sProp 𝕄 :=
  iprop(dutyTok ER (cell c (.snd k)) 0 0 ∗ dutyTok ER (cell (tgt c k) (.rcv k)) 0 0)
/-- The right to wait for a send to be over. -/
def sending (c : Dev nD) (k : Lk) : sProp 𝕄 := iprop(cred (tallyAt (cell c (.snd k)) () (N k)) ∗ atPos ER (cell c (.snd k)) 0 ∅ 0)
/-- The right to wait for a landing. -/
def coming (c : Dev nD) (k : Lk) : sProp 𝕄 := iprop(cred (tallyAt (cell c (.rcv k)) () (N k)) ∗ atPos ER (cell c (.rcv k)) 0 ∅ 0)

variable {α : Type}

/-- A send along a link, to the device the link goes to however that is written. -/
theorem wp_send_to (c n : Dev nD) (k : Lk) (hn : n = tgt c k) (S : List Lk) (kont : PUnit → PR F α) (Q : α → sProp 𝕄)
    {hsc : (lnk k).dst.view.ref.isScScratch = false} {hs : (lnk k).src.view.WordExact} {hd : (lnk k).dst.view.WordExact}
    {hsem : DmaTarget.Typed .vmem (.dma (lnk k).rcv) (.remote (Dev.tc n : Thread nD τ) (lnk k).dst (.dma (lnk k).snd) hsc)} :
    iprop(records m K ∗ owe c (k :: S) ∗ toks c k ∗ atPos ER (cell c (.snd k)) 0 ∅ 0
        ∗ owns (c : Thread nD τ) (lnk k).src (qS k) (carried m c k) ∗ land (tgt c k) k)
      ⊢ iprop(((owe c S ∗ sending c k) -∗ WP c (kont ⟨⟩) Q) -∗ WP c (.op (.enqueueDma (lnk k).src (.remote (Dev.tc n : Thread nD τ) (lnk k).dst (.dma (lnk k).snd) hsc) (.dma (lnk k).rcv) hs hd hsem) kont) Q) := by
  subst hn
  unfold owe toks sending land
  iintro ⟨#HR, ⟨%W, HO⟩, ⟨Ht1, Ht2⟩, Hat, Hs, ⟨%X, Hl⟩⟩ Hk
  ihave Hs := (owns_elim _ _ _ _) $$ Hs
  icases Hs with ⟨%fs, %hfs, Hs⟩
  ihave Hl := (owns_elim _ _ _ _) $$ Hl
  icases Hl with ⟨%fd, %hfd, Hl⟩
  iapply (Rounds.wp_send_pointsTo 𝒱₀ ER (Rd m) (c : Thread nD τ) none (κ₁ := K (c, .snd k)) (κ₂ := K (tgt c k, .rcv k))
    (c' := (tgt c k : Thread nD τ)) (src := (lnk k).src) (dst := (lnk k).dst) (fs := fs) (q := qS k)
    (r₁ := 0) (r₂ := 0) (d₁ := 0) (d₂ := 0) (fd := fd)
    (sS := .dma (lnk k).snd) (sem := .dma (lnk k).rcv)
    (by rw [show ((c : Thread nD τ), SemLoc.dma (lnk k).snd) = cell c (.snd k) from rfl, duties_cell]; exact Finset.mem_singleton_self _)
    (by rw [show ((tgt c k : Thread nD τ), SemLoc.dma (lnk k).rcv) = cell (tgt c k) (.rcv k) from rfl, duties_cell]; exact Finset.mem_singleton_self _)
    () () (N k) rfl (amount_cell m c (.snd k) 0) (amount_cell m (tgt c k) (.rcv k) 0) (Orem c S) rfl (W := W)
    (by
      rw [show ((c : Thread nD τ), SemLoc.dma (lnk k).snd) = cell c (.snd k) from rfl, payload_cell]
      show _ ⊢ owns (c : Thread nD τ) (lnk k).src (qS k) (carried m c k)
      rw [← hfs]; exact owns_intro _ _ _ _)
    (by
      rw [show ((tgt c k : Thread nD τ), SemLoc.dma (lnk k).rcv) = cell (tgt c k) (.rcv k) from rfl, payload_cell]
      show _ ⊢ owns (tgt c k : Thread nD τ) (lnk k).dst fullShare (carried m (frm (tgt c k) k) k)
      rw [frm_tgt, ← hfs]
      refine (owns_intro _ _ _ _).trans (Entails.of_eq ?_)
      rw [View.read_write_univ])) $$ [HO Hs Hl Ht1 Ht2]
  · isplitr; · iapply (records_inv m K c (.snd k)); iexact HR
    isplitr; · iapply (records_inv m K (tgt c k) (.rcv k)); iexact HR
    isplitl [Hs]; · iexact Hs
    isplitl [Hl]; · iexact Hl
    isplitl [HO]; · iexact HO
    isplitl [Ht1]; · iexact Ht1
    isplitr; · iapply (records_reached m K c (.snd k)); iexact HR
    isplitl [Ht2]; · iexact Ht2
    iapply (records_reached m K (tgt c k) (.rcv k)); iexact HR
  iintro ⟨Hc, HO⟩
  iapply Hk
  isplitl [HO]; · iexists W; iexact HO
  isplitl [Hc]; · iexact Hc
  iexact Hat

theorem wp_send (c : Dev nD) (k : Lk) (S : List Lk) (kont : PUnit → PR F α) (Q : α → sProp 𝕄) :
    iprop(records m K ∗ owe c (k :: S) ∗ toks c k ∗ atPos ER (cell c (.snd k)) 0 ∅ 0
        ∗ owns (c : Thread nD τ) (lnk k).src (qS k) (carried m c k) ∗ land (tgt c k) k)
      ⊢ iprop(((owe c S ∗ sending c k) -∗ WP c (kont ⟨⟩) Q) -∗ WP c (send c k >>= kont) Q) := by
  unfold send
  rw [lift_bind]
  exact wp_send_to m K c (dst c k) k (dst_eq c k) S kont Q

/-- Waiting for the landing of a link; its cell is done with. -/
theorem wp_recv (c : Dev nD) (k : Lk) (S : List Lk) (h : ∀ k' ∈ S, lvl k < lvl k') (kont : PUnit → PR F α) (Q : α → sProp 𝕄) :
    iprop(records m K ∗ owe c S ∗ coming c k)
      ⊢ iprop(((owe c S ∗ semVal (cell c (.rcv k)) 0 ∗ owns (c : Thread nD τ) (lnk k).dst fullShare (carried m (frm c k) k)) -∗ WP c (kont ⟨⟩) Q)
          -∗ WP c (recv k >>= kont) Q) := by
  unfold recv
  rw [lift_bind]
  unfold owe coming
  iintro ⟨#HR, ⟨%W, HO⟩, ⟨Hc, Hat⟩⟩ Hk
  iapply (Rounds.wp_wait_rest_token 𝒱₀ ER (Rd m) (c : Thread nD τ) none (κ := K (c, .rcv k)) (sm := csem (.rcv k))
      (wpE_waitDma2_eq 𝒱₀ (c : Thread nD τ) none Set.univ) (Set.mem_univ _) () (O := Orem c S) (W := W) (R := 0) (m := 0) (T := ∅)
      (by rw [Nat.zero_add]; exact (expect_rcv m c k).symm)) $$ [Hc HO Hat]
  · isplitr; · iapply (records_inv m K c (.rcv k)); iexact HR
    isplitl [Hc]; · iexact Hc
    isplitl [HO]; · iexact HO
    isplitr
    · iapply (mayWait c (csem (.rcv k)) S (by rw [clOf_csem]; exact h))
      iapply (records_lev m K); iexact HR
    iexact Hat
  iintro ⟨HO, Hat, -, Hpay⟩
  ihave Hpay := (Entails.of_eq (rest_rcv m c k)) $$ Hpay
  imod (Rounds.cell_close ER (Rd m) (Set.mem_univ (K (c, .rcv k))) (fun h => h) (R := 0 + 1) (duties_later m (cell c (.rcv k)))) $$ [Hat] with Hz
  · isplitr; · iapply (records_inv m K c (.rcv k)); iexact HR
    iexact Hat
  iapply Hk
  isplitl [HO]; · iexists _; iexact HO
  isplitl [Hz]; · iexact Hz
  unfold rcvPay; iexact Hpay

/-- Waiting for a send to be over; the lent share of the source comes back. -/
theorem wp_sent (c : Dev nD) (k : Lk) (S : List Lk) (h : ∀ k' ∈ S, 0 < lvl k') (kont : PUnit → PR F α) (Q : α → sProp 𝕄) :
    iprop(records m K ∗ owe c S ∗ sending c k)
      ⊢ iprop(((owe c S ∗ semVal (cell c (.snd k)) 0 ∗ owns (c : Thread nD τ) (lnk k).src (qS k) (carried m c k)) -∗ WP c (kont ⟨⟩) Q)
          -∗ WP c (sent k >>= kont) Q) := by
  unfold sent
  rw [lift_bind]
  unfold owe sending
  iintro ⟨#HR, ⟨%W, HO⟩, ⟨Hc, Hat⟩⟩ Hk
  ihave Hc := (Entails.of_eq (congrArg (fun n => cred (tallyAt (cell c (.snd k)) () n)) (N_src k).symm)) $$ Hc
  iapply (Rounds.wp_wait_rest_token 𝒱₀ ER (Rd m) (c : Thread nD τ) none (κ := K (c, .snd k)) (sm := csem (.snd k))
      (wpE_waitDma2_eq 𝒱₀ (c : Thread nD τ) none Set.univ) (Set.mem_univ _) () (O := Orem c S) (W := W) (R := 0) (m := 0) (T := ∅)
      (by rw [Nat.zero_add]; exact (N_src k).trans (expect_snd m c k).symm)) $$ [Hc HO Hat]
  · isplitr; · iapply (records_inv m K c (.snd k)); iexact HR
    isplitl [Hc]; · iexact Hc
    isplitl [HO]; · iexact HO
    isplitr
    · iapply (mayWait c (csem (.snd k)) S (by rw [clOf_csem]; exact h))
      iapply (records_lev m K); iexact HR
    iexact Hat
  iintro ⟨HO, Hat, -, Hpay⟩
  ihave Hpay := (Entails.of_eq (rest_snd m c k)) $$ Hpay
  imod (Rounds.cell_close ER (Rd m) (Set.mem_univ (K (c, .snd k))) (fun h => h) (R := 0 + 1) (duties_later m (cell c (.snd k)))) $$ [Hat] with Hz
  · isplitr; · iapply (records_inv m K c (.snd k)); iexact HR
    iexact Hat
  iapply Hk
  isplitl [HO]; · iexists _; iexact HO
  isplitl [Hz]; · iexact Hz
  unfold sndPay; iexact Hpay

/-! ## The barrier -/

/-- The places on `c` that the others' links land in, grouped by the device they are handed to. -/
def lands (c : Dev nD) : sProp 𝕄 :=
  iprop((land c (.l 0) ∗ land c (.l 1) ∗ land c (.l 2) ∗ land c (.l 3) ∗ land c (.a 2)) ∗ land c (.a 1)
    ∗ (land c (.r 0) ∗ land c (.r 1) ∗ land c (.r 2) ∗ land c (.r 3) ∗ land c (.a 0)))

/-- What the barrier takes, besides what is owed: the three duties, the right to wait. -/
def barToks (c : Dev nD) : sProp 𝕄 :=
  iprop(dutyTok ER (cell (nxt c) .bar) 0 0 ∗ dutyTok ER (cell (opp c) .bar) 0 1 ∗ dutyTok ER (cell (prv c) .bar) 0 2
    ∗ cred (tallyAt (cell c .bar) () 3) ∗ atPos ER (cell c .bar) 0 ∅ 0)

theorem wp_barrier (c : Dev nD) (W : Waits sig Unit) (kont : PUnit → PR F α) (Q : α → sProp 𝕄) :
    iprop(records m K ∗ owes (c : Thread nD τ) (O₀ c) W ∗ barToks c ∗ lands c)
      ⊢ iprop(((owe c order ∗ semVal (cell c .bar) 0 ∗ barPay c 0 ∗ barPay c 1 ∗ barPay c 2) -∗ WP c (kont ⟨⟩) Q)
          -∗ WP c (barrier c >>= kont) Q) := by
  unfold barrier
  simp only [semSignalWord, semWaitWord, Prog.lift, Prog.bind_op, Prog.bind_ret, Prog.pure_eq_ret, bind_assoc]
  simp only [dev1_eq c, dev2_eq c, dev3_eq c]
  unfold barToks lands owe
  iintro ⟨#HR, HO, ⟨Ht0, Ht1, Ht2, Hc, Hat⟩, Hl0, Hl1, Hl2⟩ Hk
  iapply (Rounds.wp_signal 𝒱₀ ER (Rd m) (c : Thread nD τ) none (dst := (nxt c : Thread nD τ)) (κ := K (nxt c, .bar)) (r := 0)
      (d := 0) (by rw [show ((nxt c : Thread nD τ), SemLoc.reg barS) = cell (nxt c) .bar from rfl, duties_cell]; exact Finset.mem_univ _)
      ((amount_cell m (nxt c) .bar 0).trans (by decide)) () (O₁ c) rfl)
    $$ [HO Ht0 Hl0]
  · isplitr; · iapply (records_inv m K (nxt c) .bar); iexact HR
    isplitl [HO]; · iexact HO
    isplitl [Ht0]; · iexact Ht0
    isplitl [Hl0]
    · rw [show ((nxt c : Thread nD τ), SemLoc.reg barS) = cell (nxt c) .bar from rfl, payload_cell]
      simp only [payOf]; unfold barPay; rw [prv_nxt]; iexact Hl0
    iapply (records_reached m K (nxt c) .bar); iexact HR
  iintro HO
  unfold O₁
  iapply (Rounds.wp_signal 𝒱₀ ER (Rd m) (c : Thread nD τ) none (dst := (opp c : Thread nD τ)) (κ := K (opp c, .bar)) (r := 0)
      (d := 1) (by rw [show ((opp c : Thread nD τ), SemLoc.reg barS) = cell (opp c) .bar from rfl, duties_cell]; exact Finset.mem_univ _)
      ((amount_cell m (opp c) .bar 1).trans (by decide)) () (O₂ c) rfl)
    $$ [HO Ht1 Hl1]
  · isplitr; · iapply (records_inv m K (opp c) .bar); iexact HR
    isplitl [HO]; · iexact HO
    isplitl [Ht1]; · iexact Ht1
    isplitl [Hl1]
    · rw [show ((opp c : Thread nD τ), SemLoc.reg barS) = cell (opp c) .bar from rfl, payload_cell]
      simp only [payOf]; unfold barPay; rw [opp_opp]; iexact Hl1
    iapply (records_reached m K (opp c) .bar); iexact HR
  iintro HO
  unfold O₂
  iapply (Rounds.wp_signal 𝒱₀ ER (Rd m) (c : Thread nD τ) none (dst := (prv c : Thread nD τ)) (κ := K (prv c, .bar)) (r := 0)
      (d := 2) (by rw [show ((prv c : Thread nD τ), SemLoc.reg barS) = cell (prv c) .bar from rfl, duties_cell]; exact Finset.mem_univ _)
      ((amount_cell m (prv c) .bar 2).trans (by decide)) () (Orem c order) rfl)
    $$ [HO Ht2 Hl2]
  · isplitr; · iapply (records_inv m K (prv c) .bar); iexact HR
    isplitl [HO]; · iexact HO
    isplitl [Ht2]; · iexact Ht2
    isplitl [Hl2]
    · rw [show ((prv c : Thread nD τ), SemLoc.reg barS) = cell (prv c) .bar from rfl, payload_cell]
      simp only [payOf]; unfold barPay; rw [nxt_prv]; iexact Hl2
    iapply (records_reached m K (prv c) .bar); iexact HR
  iintro HO
  iapply (Rounds.wp_wait_rest_token 𝒱₀ ER (Rd m) (c : Thread nD τ) none (κ := K (c, .bar)) (sm := csem .bar)
      (wpE_semWait_eq 𝒱₀ (c : Thread nD τ) none Set.univ) (Set.mem_univ _) () (O := Orem c order) (W := W) (R := 0) (m := 0) (T := ∅)
      (by rw [show ((c : Thread nD τ), csem .bar) = cell c .bar from rfl, expect_bar]; decide)) $$ [Hc HO Hat]
  · isplitr; · iapply (records_inv m K c .bar); iexact HR
    isplitl [Hc]; · iexact Hc
    isplitl [HO]; · iexact HO
    isplitr
    · iapply (mayWait c (csem .bar) order (by rw [clOf_csem]; decide))
      iapply (records_lev m K); iexact HR
    iexact Hat
  iintro ⟨HO, Hat, -, Hpay⟩
  ihave Hpay := (Entails.of_eq (rest_bar m c)) $$ Hpay
  imod (Rounds.cell_close ER (Rd m) (Set.mem_univ (K (c, .bar))) (fun h => h) (R := 0 + 1) (duties_later m (cell c .bar))) $$ [Hat] with Hz
  · isplitr; · iapply (records_inv m K c .bar); iexact HR
    iexact Hat
  iapply Hk
  isplitl [HO]; · iexists _; iexact HO
  isplitl [Hz]; · iexact Hz
  iexact Hpay

end Cert.Proof.KernelIdeal
-- ==== Proof.Ideal.Local.lean ====
/- The rules of the local copies (to and from a slot, into the own buffers) and of the loads and stores. -/
module

public import proofs.«01_k».proof.Proof.Ideal.Steps

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

/-! ## Slots, pieces of the output, copies under way -/

def slot (c : Dev nD) (j : Fin 4) (X : FVec F S256x2048 .f32) : sProp 𝕄 := owns (c : Thread nD τ) (slotM j) fullShare X
def pc (c : Dev nD) (i : Fin 16) (X : FVec F S256x2048 .f32) : sProp 𝕄 := owns (c : Thread nD τ) (outM c i) fullShare X
def anySlot (c : Dev nD) (j : Fin 4) : sProp 𝕄 := iprop(∃ X, slot c j X)
def anyPc (c : Dev nD) (i : Fin 16) : sProp 𝕄 := iprop(∃ X, pc c i X)

abbrev stS (j : Fin 4) : SemLoc sig := .dma (sem4 cc0_scratch10 j)
abbrev ldS (j : Fin 4) : SemLoc sig := .dma (sem4 cc0_scratch11 j)
abbrev xS (j : Fin 2) : SemLoc sig := .dma (sem2 cc0_scratch9 j)

theorem clOf_stS (j : Fin 4) : clOf (stS j) = none := clOf_none (by revert j; decide +kernel)
theorem clOf_ldS (j : Fin 4) : clOf (ldS j) = none := clOf_none (by revert j; decide +kernel)
theorem clOf_xS (j : Fin 2) : clOf (xS j) = none := clOf_none (by revert j; decide +kernel)

theorem lvl_pos (k : Lk) : 0 < lvl k := by revert k; decide

/-- The store of slot `j`, holding `X`, to piece `i`, under way; and the load back. -/
def storing (c : Dev nD) (j : Fin 4) (i : Fin 16) (X : FVec F S256x2048 .f32) : sProp 𝕄 :=
  Transfers.Flight EC (c : Thread nD τ) (stS j) () (outM c i).view.dmaCredit iprop(pc c i X ∗ slot c j X)
def loading (c : Dev nD) (j : Fin 4) (i : Fin 16) (X : FVec F S256x2048 .f32) : sProp 𝕄 :=
  Transfers.Flight EC (c : Thread nD τ) (ldS j) () (slotM j).view.dmaCredit iprop(slot c j X ∗ pc c i X)

theorem wp_copy {sp sp' : Space} {s : Shape} {e : EltTy} (c : Dev nD) (src : Memref sig .tc sp s e) (dst : Memref sig .tc sp' s e) (sm : SemLoc sig)
    {hsrc : src.view.WordExact} {hdst : dst.view.WordExact} {hsem : DmaTarget.Typed sp sm (.here dst : DmaTarget nD τ sig (.tc : Proc τ) sp' s e)}
    (k : PUnit → PR F α) (Q : α → sProp 𝕄) (q : PosShare TreeShare) (X : s.Idx → Elt F e) (h0 : 0 < dst.view.amount sm) :
    iprop(owns (c : Thread nD τ) src q X ∗ (∃ Y, owns (c : Thread nD τ) dst fullShare Y) ∗ semVal ((c : Thread nD τ), sm) 0)
      ⊢ iprop((Transfers.Flight EC (c : Thread nD τ) sm () (dst.view.amount sm) iprop(owns (c : Thread nD τ) dst fullShare X ∗ owns (c : Thread nD τ) src q X) -∗ WP c (k ⟨⟩) Q)
          -∗ WP c (.op (.enqueueDma src (.here dst) sm hsrc hdst hsem) k) Q) := by
  iintro ⟨Hs, ⟨%Y, Hd⟩, Hz⟩ Hk
  ihave Hs := (owns_elim _ _ _ _) $$ Hs
  icases Hs with ⟨%fs, %hfs, Hs⟩
  ihave Hd := (owns_elim _ _ _ _) $$ Hd
  icases Hd with ⟨%fd, %hfd, Hd⟩
  iapply (Transfers.wp_dmaLocal EC 𝒱₀ (c : Thread nD τ) none () (dst.view.amount sm) rfl h0 (Finset.Subset.refl _)
    (src := src) (dst := dst) (fs := fs) (fd := fd) (q := q)) $$ [Hs Hd Hz]
  · isplitl [Hs]; · iexact Hs
    isplitl [Hd]; · iexact Hd
    iexact Hz
  iintro Hf
  iapply Hk
  iapply (Transfers.Flight_mono EC (c : Thread nD τ) (D' := iprop(owns (c : Thread nD τ) dst fullShare X ∗ owns (c : Thread nD τ) src q X)) (by
    subst hfs
    iintro ⟨H1, H2⟩
    isplitl [H1]
    · ihave H1 := (owns_intro _ dst _ _) $$ H1
      rw [View.read_write_univ]
      iexact H1
    · rw [owns_read]; iexact H2)) $$ Hf

theorem wp_copied {sp sp' : Space} {s s' : Shape} {e e' : EltTy} (c : Dev nD) (src : Memref sig .tc sp s' e') (dst : Memref sig .tc sp' s e) (sm : DmaSem sig)
    {hsrc : src.view.WordExact} {hdst : dst.view.WordExact} (hs : clOf (.dma sm) = none)
    (k : PUnit → PR F α) (Q : α → sProp 𝕄) (D : sProp 𝕄) (S : List Lk) :
    iprop(records m K ∗ owe c S ∗ Transfers.Flight EC (c : Thread nD τ) (.dma sm) () dst.view.dmaCredit D)
      ⊢ iprop(((owe c S ∗ semVal ((c : Thread nD τ), .dma sm) 0 ∗ D) -∗ WP c (k ⟨⟩) Q) -∗ WP c (.op (.waitDma2 sm src dst hsrc hdst) k) Q) := by
  unfold owe
  iintro ⟨#HR, ⟨%W, HO⟩, Hf⟩ Hk
  iapply (Transfers.wp_waitLocalO EC 𝒱₀ (c : Thread nD τ) none () (N := dst.view.dmaCredit) rfl (D := D) (O := Orem c S) (W := W)) $$ [Hf HO]
  · isplitl [Hf]; · iexact Hf
    isplitl [HO]; · iexact HO
    iapply (mayWait c (.dma sm) S (by rw [hs]; exact fun k _ => lvl_pos k))
    iapply (records_lev m K); iexact HR
  iintro ⟨HD, Hz, HO⟩
  iapply Hk
  isplitl [HO]; · iexists _; iexact HO
  isplitl [Hz]; · iexact Hz
  iexact HD

theorem wp_storeStep (c : Dev nD) (j : Fin 4) (i : Fin 16) (X : FVec F S256x2048 .f32) (kont : PUnit → PR F α) (Q : α → sProp 𝕄) :
    iprop(slot c j X ∗ anyPc c i ∗ semVal ((c : Thread nD τ), stS j) 0)
      ⊢ iprop((storing c j i X -∗ WP c (kont ⟨⟩) Q) -∗ WP c (store c j i >>= kont) Q) := by
  unfold store slot anyPc pc storing
  rw [lift_bind]
  exact wp_copy c (slotM j) (outM c i) (stS j) kont Q fullShare X (View.dmaCredit_pos _ (by decide))

theorem wp_storedStep (c : Dev nD) (j : Fin 4) (i : Fin 16) (X : FVec F S256x2048 .f32) (S : List Lk) (kont : PUnit → PR F α) (Q : α → sProp 𝕄) :
    iprop(records m K ∗ owe c S ∗ storing c j i X)
      ⊢ iprop(((owe c S ∗ semVal ((c : Thread nD τ), stS j) 0 ∗ pc c i X ∗ slot c j X) -∗ WP c (kont ⟨⟩) Q) -∗ WP c (stored c j i >>= kont) Q) := by
  unfold stored storing
  rw [lift_bind]
  exact wp_copied m K c (slotM j) (outM c i) (sem4 cc0_scratch10 j) (clOf_stS j) kont Q _ S

theorem wp_loadStep (c : Dev nD) (j : Fin 4) (i : Fin 16) (X : FVec F S256x2048 .f32) (kont : PUnit → PR F α) (Q : α → sProp 𝕄) :
    iprop(pc c i X ∗ anySlot c j ∗ semVal ((c : Thread nD τ), ldS j) 0)
      ⊢ iprop((loading c j i X -∗ WP c (kont ⟨⟩) Q) -∗ WP c (load c j i >>= kont) Q) := by
  unfold load pc anySlot slot loading
  rw [lift_bind]
  exact wp_copy c (outM c i) (slotM j) (ldS j) kont Q fullShare X (View.dmaCredit_pos _ (by decide))

theorem wp_loadedStep (c : Dev nD) (j : Fin 4) (i : Fin 16) (X : FVec F S256x2048 .f32) (S : List Lk) (kont : PUnit → PR F α) (Q : α → sProp 𝕄) :
    iprop(records m K ∗ owe c S ∗ loading c j i X)
      ⊢ iprop(((owe c S ∗ semVal ((c : Thread nD τ), ldS j) 0 ∗ slot c j X ∗ pc c i X) -∗ WP c (kont ⟨⟩) Q) -∗ WP c (loaded c j i >>= kont) Q) := by
  unfold loaded loading
  rw [lift_bind]
  exact wp_copied m K c (outM c i) (slotM j) (sem4 cc0_scratch11 j) (clOf_ldS j) kont Q _ S

/-! ## Loads and stores -/

/-- A load of a rectangle of a buffer owned there. -/
theorem wp_read {cs : CoreSpace} {s : Shape} {e : EltTy} (c : Dev nD) (B : Memref sig .tc cs s e) (r : Rect s) (hr : ∀ a, r.stride a = 1)
    {hl : B.view.LoadsAt r} (q : PosShare TreeShare) (X : r.shape.Idx → Elt F e) (k : (r.shape.Idx → Elt F e) → PR F α) (Q : α → sProp 𝕄) :
    owns (c : Thread nD τ) (B.slice r hr) q X
      ⊢ iprop((owns (c : Thread nD τ) (B.slice r hr) q X -∗ WP c (k X) Q) -∗ WP c (.op (.load B r hl) k) Q) := by
  iintro H Hk
  ihave H := (owns_elim _ _ _ _) $$ H
  icases H with ⟨%f, %hf, H⟩
  iapply (wp_load_rect 𝒱₀ (c : Thread nD τ) none Set.univ (m := B) (r := r) (f := f) (Finset.Subset.refl _)) $$ H
  iintro H
  have hX : (B.access r).read (Elt F) f = X := hf
  rw [hX]
  iapply Hk
  ihave H := (owns_intro (c : Thread nD τ) (B.slice r hr) q f) $$ H
  rw [← hf]
  iexact H

/-- A store over all of a rectangle owned in full. -/
theorem wp_write {cs : CoreSpace} {s : Shape} {e : EltTy} (c : Dev nD) (B : Memref sig .tc cs s e) (r : Rect s) (hr : ∀ a, r.stride a = 1)
    (w : r.shape.Idx → Elt F e) {hx : (B.access r).Stores Finset.univ} {hm : Finset.univ = Finset.univ ∨ ∀ a, r.stride a = 1}
    (X : r.shape.Idx → Elt F e) (k : PUnit → PR F α) (Q : α → sProp 𝕄) :
    owns (c : Thread nD τ) (B.slice r hr) fullShare X
      ⊢ iprop((owns (c : Thread nD τ) (B.slice r hr) fullShare w -∗ WP c (k ⟨⟩) Q) -∗ WP c (.op (.store B r w Finset.univ hx hm) k) Q) := by
  iintro H Hk
  ihave H := (owns_elim _ _ _ _) $$ H
  icases H with ⟨%f, %hf, H⟩
  iapply (wp_store 𝒱₀ (c : Thread nD τ) none Set.univ (m := B) (r := r) (w := w) (Mk := Finset.univ) (f := f)
    (S := (B.access r).set) (Finset.Subset.refl _)) $$ H
  iintro H
  iapply Hk
  ihave H := (owns_intro (c : Thread nD τ) (B.slice r hr) fullShare _) $$ H
  have hw : (B.slice r hr).view.read (Elt F) ((B.access r).write (Elt F) f w Finset.univ) = w := View.read_write_univ _ _
  rw [hw]
  iexact H

theorem up_eq (X : FVec F S256x2048 .f32) : (up X : FVec F S1x256x2048 .f32) = shapeCast S1x256x2048 X shapeCasts_S256x2048_S1x256x2048 := rfl
theorem down_up (X : FVec F S256x2048 .f32) : down (up X) = X := shapeCast_shapeCast _ _ _

theorem slot_eq (c : Dev nD) (j : Fin 4) (X : FVec F S256x2048 .f32) :
    (slot c j X : sProp 𝕄) = owns (c : Thread nD τ) (stgM.slice (slotR j) (fun _ => rfl)) fullShare (up X) :=
  owns_squeeze (Val := Elt F) (c : Thread nD τ) (stgM.slice (slotR j) (fun _ => rfl)) S256x2048 squeezes_S1x256x2048_S256x2048 fullShare X

theorem wp_readSlot (c : Dev nD) (j : Fin 4) (X : FVec F S256x2048 .f32) (kont : Vec F S1x256x2048 .f32 → PR F α) (Q : α → sProp 𝕄) :
    slot c j X ⊢ iprop((slot c j X -∗ WP c (kont (up X)) Q) -∗ WP c (readSlot j >>= kont) Q) := by
  unfold readSlot
  rw [lift_bind, slot_eq]
  exact wp_read c stgM (slotR j) (fun _ => rfl) fullShare (up X) kont Q

theorem wp_putSlot (c : Dev nD) (j : Fin 4) (Y : FVec F S256x2048 .f32) (kont : PUnit → PR F α) (Q : α → sProp 𝕄) :
    anySlot c j ⊢ iprop((slot c j Y -∗ WP c (kont ⟨⟩) Q) -∗ WP c (putSlot j (up Y) >>= kont) Q) := by
  unfold putSlot anySlot
  iintro ⟨%X, H⟩ Hk
  rw [bind_assoc]
  iapply (wp_readSlot c j X) $$ H
  iintro H
  rw [lift_bind]
  ihave H := (Entails.of_eq (slot_eq c j X)) $$ H
  iapply (wp_write c stgM (slotR j) (fun _ => rfl) (up Y) (up X)) $$ H
  iintro H
  iapply Hk
  rw [slot_eq]
  iexact H

end Cert.Proof.KernelIdeal
-- ==== Proof.Ideal.Blocks.lean ====
/- The rules of the blocks of steps: multiply a block and store it, take in a tail, rescale a piece. -/
module

public import proofs.«01_k».proof.Proof.Ideal.Local

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

/-! ## Whole buffers -/

theorem unit_zero_emb {s : Shape} {off : Fin s.rank → ℕ} (h0 : ∀ a, off a = 0) (inb : ∀ a, off a + s.size a ≤ s.size a) (j : s.Idx) :
    (Rect.unit (s := s) off s.size inb).emb j = j := by
  funext a
  refine Fin.ext ?_
  rw [Rect.emb_apply]
  simp [Rect.unit, h0 a]

/-- A load of all of a buffer. -/
theorem wp_readAll {cs : CoreSpace} {s : Shape} {e : EltTy} (c : Dev nD) (A : Memref sig .tc cs s e) {off : Fin s.rank → ℕ} (h0 : ∀ a, off a = 0)
    (inb : ∀ a, off a + s.size a ≤ s.size a) {hl : A.view.LoadsAt (Rect.unit (s := s) off s.size inb)}
    (q : PosShare TreeShare) (X : s.Idx → Elt F e) (k : (s.Idx → Elt F e) → PR F α) (Q : α → sProp 𝕄) :
    owns (c : Thread nD τ) A q X
      ⊢ iprop((owns (c : Thread nD τ) A q X -∗ WP c (k X) Q) -∗ WP c (.op (.load A (Rect.unit (s := s) off s.size inb) hl) k) Q) := by
  iintro H Hk
  ihave H := (owns_elim _ _ _ _) $$ H
  icases H with ⟨%f, %hf, H⟩
  iapply (wp_load_rect 𝒱₀ (c : Thread nD τ) none Set.univ (m := A) (r := Rect.unit (s := s) off s.size inb) (f := f) (View.set_slice_subset _ _)) $$ H
  iintro H
  have hX : (A.access (Rect.unit (s := s) off s.size inb)).read (Elt F) f = X := by
    rw [← hf]; funext j
    exact congrArg (A.view.read (Elt F) f) (unit_zero_emb h0 inb j)
  rw [hX]
  iapply Hk
  ihave H := (owns_intro (c : Thread nD τ) A q f) $$ H
  rw [← hf]
  iexact H

/-- A store over all of a buffer. -/
theorem wp_writeAll {cs : CoreSpace} {s : Shape} {e : EltTy} (c : Dev nD) (A : Memref sig .tc cs s e) {off : Fin s.rank → ℕ} (h0 : ∀ a, off a = 0)
    (inb : ∀ a, off a + s.size a ≤ s.size a) (w : s.Idx → Elt F e) {hx : (A.access (Rect.unit (s := s) off s.size inb)).Stores Finset.univ}
    {hm : Finset.univ = Finset.univ ∨ ∀ a, (Rect.unit (s := s) off s.size inb).stride a = 1}
    (X : s.Idx → Elt F e) (k : PUnit → PR F α) (Q : α → sProp 𝕄) :
    owns (c : Thread nD τ) A fullShare X
      ⊢ iprop((owns (c : Thread nD τ) A fullShare w -∗ WP c (k ⟨⟩) Q)
          -∗ WP c (.op (.store A (Rect.unit (s := s) off s.size inb) w Finset.univ hx hm) k) Q) := by
  iintro H Hk
  ihave H := (owns_elim _ _ _ _) $$ H
  icases H with ⟨%f, %hf, H⟩
  iapply (wp_store 𝒱₀ (c : Thread nD τ) none Set.univ (m := A) (r := Rect.unit (s := s) off s.size inb) (w := w) (Mk := Finset.univ) (f := f)
    (S := A.view.set) (View.set_slice_subset A.view (Rect.unit (s := s) off s.size inb))) $$ H
  iintro H
  iapply Hk
  ihave H := (owns_intro (c : Thread nD τ) A fullShare _) $$ H
  have hw : A.view.read (Elt F) ((A.access (Rect.unit (s := s) off s.size inb)).write (Elt F) f w Finset.univ) = w := by
    funext j
    have h := congrFun (View.read_write_univ (v := A.access (Rect.unit (s := s) off s.size inb)) f w) j
    exact (congrArg (A.view.read (Elt F) _) (unit_zero_emb h0 inb j)).symm.trans h
  rw [hw]
  iexact H

theorem off0 : ∀ a : Fin 2, (![0, 0] : Fin 2 → ℕ) a = 0 := by decide

theorem wp_readOwn (c : Dev nD) (A : Memref sig .tc .vmem S512x4096 .bf16) (q : PosShare TreeShare) (X : FVec F S512x4096 .bf16)
    (kont : Vec F S512x4096 .bf16 → PR F α) (Q : α → sProp 𝕄) :
    owns (c : Thread nD τ) A q X ⊢ iprop((owns (c : Thread nD τ) A q X -∗ WP c (kont X) Q) -∗ WP c (readOwn A >>= kont) Q) := by
  unfold readOwn
  rw [lift_bind]
  exact wp_readAll c A off0 _ q X kont Q

theorem wp_readW (c : Dev nD) (q : PosShare TreeShare) (X : Vec F S4096x2048 .bf16) (kont : Vec F S4096x2048 .bf16 → PR F α) (Q : α → sProp 𝕄) :
    owns (c : Thread nD τ) wM q X ⊢ iprop((owns (c : Thread nD τ) wM q X -∗ WP c (kont X) Q) -∗ WP c (readW >>= kont) Q) := by
  unfold readW
  rw [lift_bind]
  exact wp_readAll c wM off0 _ q X kont Q

theorem wp_putBox (c : Dev nD) (w : Vec F S8x128 .f32) (kont : PUnit → PR F α) (Q : α → sProp 𝕄) :
    iprop(∃ X, owns (c : Thread nD τ) boxM fullShare X)
      ⊢ iprop((owns (c : Thread nD τ) boxM fullShare w -∗ WP c (kont ⟨⟩) Q) -∗ WP c (putBox w >>= kont) Q) := by
  unfold putBox
  iintro ⟨%X, H⟩ Hk
  rw [bind_assoc, lift_bind]
  iapply (wp_readAll c boxM off0 _ fullShare X) $$ H
  iintro H
  rw [lift_bind]
  iapply (wp_writeAll c boxM off0 _ w X) $$ H
  iintro H
  iapply Hk
  iexact H

theorem wp_readHop (c : Dev nD) (B : Memref sig .tc .vmem S3x512x4096 .bf16) (h : Fin 3) (q : PosShare TreeShare) (X : FVec F S512x4096 .bf16)
    (kont : Vec F S1x512x4096 .bf16 → PR F α) (Q : α → sProp 𝕄) :
    owns (c : Thread nD τ) (hopM B h) q X
      ⊢ iprop((owns (c : Thread nD τ) (hopM B h) q X -∗ WP c (kont (shapeCast S1x512x4096 X squeezes_S1x512x4096_S512x4096.numel_eq.symm)) Q) -∗ WP c (readHop B h >>= kont) Q) := by
  unfold readHop
  rw [lift_bind, owns_squeeze (Val := Elt F) (c : Thread nD τ) (B.slice (hopR h) (fun _ => rfl)) S512x4096 squeezes_S1x512x4096_S512x4096 q X]
  exact wp_read c B (hopR h) (fun _ => rfl) q _ kont Q

theorem wp_readHalf (c : Dev nD) (B : Memref sig .tc .vmem S3x512x4096 .bf16) (b : Fin 2) (q : PosShare TreeShare) (X : FVec F S256x4096 .bf16)
    (kont : Vec F S1x256x4096 .bf16 → PR F α) (Q : α → sProp 𝕄) :
    owns (c : Thread nD τ) (halfM B 2 b) q X
      ⊢ iprop((owns (c : Thread nD τ) (halfM B 2 b) q X -∗ WP c (kont (shapeCast S1x256x4096 X squeezes_S1x256x4096_S256x4096.numel_eq.symm)) Q) -∗ WP c (readHalf B b >>= kont) Q) := by
  unfold readHalf
  rw [lift_bind, owns_squeeze (Val := Elt F) (c : Thread nD τ) (B.slice (halfR 2 b) (fun _ => rfl)) S256x4096 squeezes_S1x256x4096_S256x4096 q X]
  exact wp_read c B (halfR 2 b) (fun _ => rfl) q _ kont Q

theorem wp_readBox (c : Dev nD) (j : Fin 3) (q : PosShare TreeShare) (X : FVec F S8x128 .f32)
    (kont : Vec F S1x8x128 .f32 → PR F α) (Q : α → sProp 𝕄) :
    owns (c : Thread nD τ) (bxM j) q X
      ⊢ iprop((owns (c : Thread nD τ) (bxM j) q X -∗ WP c (kont (shapeCast S1x8x128 X squeezes_S1x8x128_S8x128.numel_eq.symm)) Q) -∗ WP c (readBox j >>= kont) Q) := by
  unfold readBox
  rw [lift_bind, owns_squeeze (Val := Elt F) (c : Thread nD τ) (bxsM.slice (boxR j) (fun _ => rfl)) S8x128 squeezes_S1x8x128_S8x128 q X]
  exact wp_read c bxsM (boxR j) (fun _ => rfl) q _ kont Q

/-! ## Blocks -/

/-- The right to use a slot's store semaphore, its load semaphore. -/
abbrev stZ (c : Dev nD) (j : Fin 4) : sProp 𝕄 := semVal ((c : Thread nD τ), stS j) 0
abbrev ldZ (c : Dev nD) (j : Fin 4) : sProp 𝕄 := semVal ((c : Thread nD τ), ldS j) 0

theorem wp_put5 (c : Dev nD) (j j' : Fin 4) (i i' : Fin 16) (Y : FVec F S512x2048 .f32) (kont : PUnit → PR F α) (Q : α → sProp 𝕄) :
    iprop((anySlot c j ∗ anySlot c j') ∗ (anyPc c i ∗ anyPc c i') ∗ stZ c j ∗ stZ c j')
      ⊢ iprop(((storing c j i (top Y) ∗ storing c j' i' (low Y)) -∗ WP c (kont ⟨⟩) Q) -∗ WP c (put5 c j j' i i' Y >>= kont) Q) := by
  unfold put5
  simp only [bind_assoc]
  iintro ⟨⟨Hs, Hs'⟩, ⟨Hp, Hp'⟩, Hz, Hz'⟩ Hk
  iapply (wp_putSlot c j) $$ Hs; iintro Hs
  iapply (wp_putSlot c j') $$ Hs'; iintro Hs'
  iapply (wp_storeStep c j i) $$ [Hs Hp Hz]
  · isplitl [Hs]; · iexact Hs
    isplitl [Hp] <;> iassumption
  iintro H
  iapply (wp_storeStep c j' i') $$ [Hs' Hp' Hz']
  · isplitl [Hs']; · iexact Hs'
    isplitl [Hp'] <;> iassumption
  iintro H'
  iapply Hk
  isplitl [H] <;> iassumption

theorem wp_blockOwn (c : Dev nD) (A : Memref sig .tc .vmem S512x4096 .bf16) (j j' : Fin 4) (i i' : Fin 16) (q q' : PosShare TreeShare)
    (X : FVec F S512x4096 .bf16) (W : Vec F S4096x2048 .bf16) (kont : F .f32 → PR F α) (Q : α → sProp 𝕄) :
    iprop(owns (c : Thread nD τ) A q X ∗ owns (c : Thread nD τ) wM q' W ∗ (anySlot c j ∗ anySlot c j') ∗ (anyPc c i ∗ anyPc c i') ∗ stZ c j ∗ stZ c j')
      ⊢ iprop(((owns (c : Thread nD τ) A q X ∗ owns (c : Thread nD τ) wM q' W ∗ storing c j i (top (prod5 X W)) ∗ storing c j' i' (low (prod5 X W)))
            -∗ WP c (kont (max5 (prod5 X W))) Q)
          -∗ WP c (blockOwn c A j j' i i' >>= kont) Q) := by
  unfold blockOwn
  simp only [bind_assoc, pure_bind]
  iintro ⟨HX, HW, Hr⟩ Hk
  iapply (wp_readOwn c A) $$ HX; iintro HX
  iapply (wp_readW c) $$ HW; iintro HW
  iapply (wp_put5 c j j' i i') $$ Hr
  iintro Hr
  iapply Hk
  isplitl [HX]; · iexact HX
  isplitl [HW]; · iexact HW
  iexact Hr

theorem wp_blockHop (c : Dev nD) (B : Memref sig .tc .vmem S3x512x4096 .bf16) (h : Fin 3) (j j' : Fin 4) (p p' i i' : Fin 16) (q q' : PosShare TreeShare)
    (X : FVec F S512x4096 .bf16) (W : Vec F S4096x2048 .bf16) (Xp Xp' : FVec F S256x2048 .f32) (S : List Lk) (kont : F .f32 → PR F α) (Q : α → sProp 𝕄) :
    iprop(records m K ∗ owe c S ∗ owns (c : Thread nD τ) (hopM B h) q X ∗ owns (c : Thread nD τ) wM q' W ∗ (storing c j p Xp ∗ storing c j' p' Xp') ∗ (anyPc c i ∗ anyPc c i'))
      ⊢ iprop(((owe c S ∗ owns (c : Thread nD τ) (hopM B h) q X ∗ owns (c : Thread nD τ) wM q' W ∗ (pc c p Xp ∗ pc c p' Xp')
              ∗ storing c j i (top (prod5 X W)) ∗ storing c j' i' (low (prod5 X W)))
            -∗ WP c (kont (max5 (prod5 X W))) Q)
          -∗ WP c (blockHop c B h j j' p p' i i' >>= kont) Q) := by
  unfold blockHop
  simp only [bind_assoc, pure_bind]
  iintro ⟨#HR, HO, HX, HW, ⟨Hs, Hs'⟩, Hp⟩ Hk
  iapply (wp_readHop c B h) $$ HX; iintro HX
  iapply (wp_storedStep m K c j p Xp S) $$ [HO Hs]
  · isplitr; · iexact HR
    isplitl [HO] <;> iassumption
  iintro ⟨HO, Hz, Hpc, Hs⟩
  iapply (wp_storedStep m K c j' p' Xp' S) $$ [HO Hs']
  · isplitr; · iexact HR
    isplitl [HO] <;> iassumption
  iintro ⟨HO, Hz', Hpc', Hs'⟩
  iapply (wp_readW c) $$ HW; iintro HW
  rw [shapeCast_shapeCast]
  iapply (wp_put5 c j j' i i') $$ [Hs Hs' Hp Hz Hz']
  · isplitl [Hs Hs']
    · unfold anySlot
      isplitl [Hs]
      · iexists Xp; iexact Hs
      · iexists Xp'; iexact Hs'
    isplitl [Hp]; · iexact Hp
    isplitl [Hz] <;> iassumption
  iintro Hr
  iapply Hk
  isplitl [HO]; · iexact HO
  isplitl [HX]; · iexact HX
  isplitl [HW]; · iexact HW
  isplitl [Hpc Hpc']
  · isplitl [Hpc] <;> iassumption
  iexact Hr

theorem wp_tail (c : Dev nD) (k : Lk) (B : Memref sig .tc .vmem S3x512x4096 .bf16) (b : Fin 2) (j : Fin 4) (p : Fin 16) (q' : PosShare TreeShare)
    (X : FVec F S256x4096 .bf16) (W : Vec F S4096x2048 .bf16) (Xp : FVec F S256x2048 .f32) (S : List Lk)
    (hk : (owns (c : Thread nD τ) (lnk k).dst fullShare (carried m (frm c k) k) : sProp 𝕄) ⊢ owns (c : Thread nD τ) (halfM B 2 b) fullShare X)
    (hS : ∀ k' ∈ S, lvl k < lvl k') (kont : F .f32 → PR F α) (Q : α → sProp 𝕄) :
    iprop(records m K ∗ owe c S ∗ coming c k ∗ owns (c : Thread nD τ) wM q' W ∗ storing c j p Xp)
      ⊢ iprop(((owe c S ∗ semVal (cell c (.rcv k)) 0 ∗ owns (c : Thread nD τ) (halfM B 2 b) fullShare X ∗ owns (c : Thread nD τ) wM q' W ∗ pc c p Xp
              ∗ stZ c j ∗ slot c j (prod2 X W))
            -∗ WP c (kont (max2 (prod2 X W))) Q)
          -∗ WP c (tail c k B b j p >>= kont) Q) := by
  unfold tail
  simp only [bind_assoc, pure_bind]
  iintro ⟨#HR, HO, Hc, HW, Hs⟩ Hk
  iapply (wp_recv m K c k S hS) $$ [HO Hc]
  · isplitr; · iexact HR
    isplitl [HO] <;> iassumption
  iintro ⟨HO, Hv, HX⟩
  ihave HX := hk $$ HX
  iapply (wp_readHalf c B b) $$ HX; iintro HX
  iapply (wp_storedStep m K c j p Xp S) $$ [HO Hs]
  · isplitr; · iexact HR
    isplitl [HO] <;> iassumption
  iintro ⟨HO, Hz, Hpc, Hs⟩
  iapply (wp_readW c) $$ HW; iintro HW
  rw [shapeCast_shapeCast]
  iapply (wp_putSlot c j) $$ [Hs]
  · unfold anySlot; iexists Xp; iexact Hs
  iintro Hs
  iapply Hk
  isplitl [HO]; · iexact HO
  isplitl [Hv]; · iexact Hv
  isplitl [HX]; · iexact HX
  isplitl [HW]; · iexact HW
  isplitl [Hpc]; · iexact Hpc
  isplitl [Hz] <;> iassumption

theorem wp_requant (c : Dev nD) (s t : F .f32) (j : Fin 4) (i : Fin 16) (Y : FVec F S256x2048 .f32) (kont : PUnit → PR F α) (Q : α → sProp 𝕄) :
    iprop(slot c j Y ∗ anyPc c i ∗ stZ c j)
      ⊢ iprop((storing c j i (quant s t Y) -∗ WP c (kont ⟨⟩) Q) -∗ WP c (requant c s t j i >>= kont) Q) := by
  unfold requant
  simp only [bind_assoc]
  iintro ⟨Hs, Hp, Hz⟩ Hk
  iapply (wp_readSlot c j) $$ Hs; iintro Hs
  rw [down_up]
  iapply (wp_putSlot c j) $$ [Hs]
  · unfold anySlot; iexists Y; iexact Hs
  iintro Hs
  iapply (wp_storeStep c j i) $$ [Hs Hp Hz]
  · isplitl [Hs]; · iexact Hs
    isplitl [Hp] <;> iassumption
  iintro H
  iapply Hk
  iexact H

/-- Waiting for a store and starting the next load into the slot. -/
theorem wp_next (c : Dev nD) (j : Fin 4) (p n : Fin 16) (Xp Yn : FVec F S256x2048 .f32) (S : List Lk) (kont : PUnit → PR F α) (Q : α → sProp 𝕄) :
    iprop(records m K ∗ owe c S ∗ storing c j p Xp ∗ pc c n Yn ∗ ldZ c j)
      ⊢ iprop(((owe c S ∗ pc c p Xp ∗ stZ c j ∗ loading c j n Yn) -∗ WP c (kont ⟨⟩) Q)
          -∗ WP c (stored c j p >>= fun _ => load c j n >>= kont) Q) := by
  iintro ⟨#HR, HO, Hs, Hn, Hl⟩ Hk
  iapply (wp_storedStep m K c j p Xp S) $$ [HO Hs]
  · isplitr; · iexact HR
    isplitl [HO] <;> iassumption
  iintro ⟨HO, Hz, Hpc, Hs⟩
  iapply (wp_loadStep c j n Yn) $$ [Hn Hs Hl]
  · isplitl [Hn]; · iexact Hn
    isplitl [Hs]
    · unfold anySlot; iexists Xp; iexact Hs
    iexact Hl
  iintro H
  iapply Hk
  isplitl [HO]; · iexact HO
  isplitl [Hpc]; · iexact Hpc
  isplitl [Hz] <;> iassumption

/-- Waiting for a load and rescaling the slot. -/
theorem wp_turn (c : Dev nD) (s t : F .f32) (j : Fin 4) (i : Fin 16) (Y : FVec F S256x2048 .f32) (S : List Lk) (kont : PUnit → PR F α) (Q : α → sProp 𝕄) :
    iprop(records m K ∗ owe c S ∗ loading c j i Y ∗ stZ c j)
      ⊢ iprop(((owe c S ∗ ldZ c j ∗ storing c j i (quant s t Y)) -∗ WP c (kont ⟨⟩) Q)
          -∗ WP c (loaded c j i >>= fun _ => requant c s t j i >>= kont) Q) := by
  iintro ⟨#HR, HO, Hl, Hz⟩ Hk
  iapply (wp_loadedStep m K c j i Y S) $$ [HO Hl]
  · isplitr; · iexact HR
    isplitl [HO] <;> iassumption
  iintro ⟨HO, Hl, Hs, Hpc⟩
  iapply (wp_requant c s t j i Y) $$ [Hs Hpc Hz]
  · isplitl [Hs]; · iexact Hs
    isplitl [Hpc]
    · unfold anyPc; iexists Y; iexact Hpc
    iexact Hz
  iintro H
  iapply Hk
  isplitl [HO]; · iexact HO
  isplitl [Hl] <;> iassumption

theorem wp_stepL (c : Dev nD) (s t : F .f32) (j' : Fin 4) (p n : Fin 16) (j : Fin 4) (i : Fin 16) (Xp Yn Y : FVec F S256x2048 .f32) (S : List Lk)
    (kont : PUnit → PR F α) (Q : α → sProp 𝕄) :
    iprop(records m K ∗ owe c S ∗ (storing c j' p Xp ∗ pc c n Yn ∗ ldZ c j') ∗ loading c j i Y ∗ stZ c j)
      ⊢ iprop(((owe c S ∗ (pc c p Xp ∗ stZ c j' ∗ loading c j' n Yn) ∗ ldZ c j ∗ storing c j i (quant s t Y)) -∗ WP c (kont ⟨⟩) Q)
          -∗ WP c (stepL c s t j' p n j i >>= kont) Q) := by
  unfold stepL
  simp only [bind_assoc]
  iintro ⟨#HR, HO, H1, H2⟩ Hk
  iapply (wp_next m K c j' p n Xp Yn S) $$ [HO H1]
  · isplitr; · iexact HR
    isplitl [HO] <;> iassumption
  iintro ⟨HO, H1⟩
  iapply (wp_turn m K c s t j i Y S) $$ [HO H2]
  · isplitr; · iexact HR
    isplitl [HO] <;> iassumption
  iintro ⟨HO, H2⟩
  iapply Hk
  isplitl [HO]; · iexact HO
  isplitl [H1] <;> iassumption

theorem wp_stepN (c : Dev nD) (s t : F .f32) (j' : Fin 4) (p : Fin 16) (j : Fin 4) (i : Fin 16) (Xp Y : FVec F S256x2048 .f32) (S : List Lk)
    (kont : PUnit → PR F α) (Q : α → sProp 𝕄) :
    iprop(records m K ∗ owe c S ∗ storing c j' p Xp ∗ loading c j i Y ∗ stZ c j)
      ⊢ iprop(((owe c S ∗ (stZ c j' ∗ pc c p Xp ∗ slot c j' Xp) ∗ ldZ c j ∗ storing c j i (quant s t Y)) -∗ WP c (kont ⟨⟩) Q)
          -∗ WP c (stepN c s t j' p j i >>= kont) Q) := by
  unfold stepN
  simp only [bind_assoc]
  iintro ⟨#HR, HO, H1, H2⟩ Hk
  iapply (wp_storedStep m K c j' p Xp S) $$ [HO H1]
  · isplitr; · iexact HR
    isplitl [HO] <;> iassumption
  iintro ⟨HO, H1⟩
  iapply (wp_turn m K c s t j i Y S) $$ [HO H2]
  · isplitr; · iexact HR
    isplitl [HO] <;> iassumption
  iintro ⟨HO, H2⟩
  iapply Hk
  isplitl [HO]; · iexact HO
  isplitl [H1] <;> iassumption

end Cert.Proof.KernelIdeal
-- ==== Proof.Ideal.Split.lean ====
/- Cutting the buffers into the places the copies use. -/
module

public import proofs.«01_k».proof.Proof.Ideal.Blocks
public import Idealize.ShloMosaic.Lib.ValueLayout

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## A whole buffer as parts -/

/-- A buffer owned is its parts owned, and its parts owned are the buffer owned. -/
theorem owns_whole {cs : Space} {s : Shape} {e : EltTy} (c : Dev nD) (B : Memref sig .tc cs s e) {off : Fin s.rank → ℕ} (h0 : ∀ a, off a = 0)
    (inb : ∀ a, off a + s.size a ≤ s.size a) (q : PosShare TreeShare) (X : s.Idx → Elt F e) :
    (owns (c : Thread nD τ) (B.slice (Rect.unit (s := s) off s.size inb) (fun _ => rfl)) q X : sProp 𝕄) = owns (c : Thread nD τ) B q X := by
  have hset : (B.slice (Rect.unit (s := s) off s.size inb) (fun _ => rfl)).view.set = B.view.set := by
    refine (View.set_slice _ _).trans ?_
    rw [← Rect.map_emb_univ]
    have he : (Rect.unit (s := s) off s.size inb).emb = Function.Embedding.refl _ := by
      ext1 j; exact unit_zero_emb h0 inb j
    rw [he, Finset.map_refl]; rfl
  have hrd : ∀ f, (B.slice (Rect.unit (s := s) off s.size inb) (fun _ => rfl)).view.read (Elt F) f = B.view.read (Elt F) f := by
    intro f; funext j; exact congrArg (B.view.read (Elt F) f) (unit_zero_emb h0 inb j)
  have h₁ : (owns (c : Thread nD τ) (B.slice (Rect.unit (s := s) off s.size inb) (fun _ => rfl)) q X : sProp 𝕄) ⊢ owns (c : Thread nD τ) B q X := by
    iintro H
    ihave H' := (owns_elim (c : Thread nD τ) _ q _) $$ H
    icases H' with ⟨%f, %hf, H⟩
    rw [← hf, hrd, owns_read, ← hset]
    iexact H
  have h₂ : (owns (c : Thread nD τ) B q X : sProp 𝕄) ⊢ owns (c : Thread nD τ) (B.slice (Rect.unit (s := s) off s.size inb) (fun _ => rfl)) q X := by
    iintro H
    ihave H' := (owns_elim (c : Thread nD τ) B q _) $$ H
    icases H' with ⟨%f, %hf, H⟩
    rw [← hf, ← hrd, owns_read, hset]
    iexact H
  exact BI.equiv_iff.mp ⟨h₁, h₂⟩

section Whole
variable {cs : Space} {s : Shape} {e : EltTy} (c : Dev nD) (B : Memref sig .tc cs s e) {T : Type} [Fintype T] [DecidableEq T]
  (rs : T → Rect s) (hrs : ∀ t a, (rs t).stride a = 1)
  (hd : ∀ t t', t ≠ t' → Disjoint (rs t).set (rs t').set) (hcov : ∀ i, ∃ t, i ∈ (rs t).set)
include hd hcov

/-- Any contents go into parts of any contents, -/
theorem cut (q : PosShare TreeShare) (X : s.Idx → Elt F e) :
    (owns (c : Thread nD τ) B q X : sProp 𝕄) ⊢ BI.bigSep Finset.univ fun t => owns (c : Thread nD τ) (B.slice (rs t) (hrs t)) q (fun j => X ((rs t).emb j)) :=
  owns_rects (c : Thread nD τ) B q rs hrs hd (by
    ext i; rw [Finset.mem_biUnion]
    exact ⟨fun _ => Finset.mem_univ _, fun _ => (hcov i).imp fun t ht => ⟨Finset.mem_univ _, ht⟩⟩) X

/-- and parts of any contents make the whole, at contents that agree with each. -/
theorem join (q : PosShare TreeShare) (Y : ∀ t, (rs t).shape.Idx → Elt F e) :
    (BI.bigSep Finset.univ fun t => owns (c : Thread nD τ) (B.slice (rs t) (hrs t)) q (Y t))
      ⊢ (iprop(∃ X : s.Idx → Elt F e, ⌜∀ t j, X ((rs t).emb j) = Y t j⌝ ∗ owns (c : Thread nD τ) B q X) : sProp 𝕄) := by
  have h0 : ∀ a : Fin s.rank, (fun _ => 0 : Fin s.rank → ℕ) a = 0 := fun _ => rfl
  have inb : ∀ a : Fin s.rank, (fun _ => 0 : Fin s.rank → ℕ) a + s.size a ≤ s.size a := fun a => by simp
  have hu : ∀ i : s.Idx, i ∈ (Rect.unit (s := s) (fun _ => 0) s.size inb).set := fun i =>
    Rect.mem_set_unit.mpr fun a => ⟨Nat.zero_le _, by have := (i a).isLt; simpa using this⟩
  iintro H
  ihave H := (owns_glue (Val := Elt F) (c : Thread nD τ) B q (Rect.unit (s := s) (fun _ => 0) s.size inb) (fun _ => rfl) rs hrs hd (by
    ext i; rw [Finset.mem_biUnion]
    exact ⟨fun _ => hu i, fun _ => (hcov i).imp fun t ht => ⟨Finset.mem_univ _, ht⟩⟩) Y) $$ H
  icases H with ⟨%X, %hX, H⟩
  iexists X
  isplitr
  · ipureintro; exact hX
  have e : (fun j => X ((Rect.unit (s := s) (fun _ => 0) s.size inb).emb j)) = X := funext fun j => congrArg X (unit_zero_emb h0 inb j)
  ihave H := (Entails.of_eq ((congrArg (owns (c : Thread nD τ) (B.slice _ (fun _ => rfl)) q) e).trans (owns_whole c B h0 inb q X))) $$ H
  iexact H

end Whole

theorem sep2 (f : Fin 2 → sProp 𝕄) : (bigSep Finset.univ f : sProp 𝕄) = iprop(f 0 ∗ f 1) := by
  rw [bigSep_univ_eq_bigSepL [0, 1] (by decide) (by decide), bigSepL_cons_cons, bigSepL_singleton]; rfl

/-! ## A hop as two halves -/

theorem half_disjoint (h : Fin 3) : ∀ t t' : Fin 2, t ≠ t' → Disjoint (halfR h t).set (halfR h t').set := by
  intro t t' htt
  refine Rect.unit_disjoint 1 ?_
  have hh : ∀ t t' : Fin 2, t ≠ t' → 256 * t.val + 256 ≤ 256 * t'.val ∨ 256 * t'.val + 256 ≤ 256 * t.val := by decide
  exact hh t t' htt

theorem half_cover (h : Fin 3) : (Finset.univ : Finset (Fin 2)).biUnion (fun t => (halfR h t).set) = (hopR h).set := by
  ext i
  rw [Finset.mem_biUnion]
  simp only [Rect.mem_set_unit, Finset.mem_univ, true_and]
  have h0 : (i 0).val < 3 := (i 0).isLt
  have h1 : (i 1).val < 512 := (i 1).isLt
  have h2 : (i 2).val < 4096 := (i 2).isLt
  constructor
  · rintro ⟨t, ht⟩ a
    have := ht a
    fin_cases a <;> fin_cases t <;> simp_all <;> omega
  · intro ha
    have e0 := ha 0
    simp at e0
    by_cases hc : (i 1).val < 256
    · refine ⟨0, fun a => ?_⟩
      fin_cases a <;> simp <;> omega
    · refine ⟨1, fun a => ?_⟩
      fin_cases a <;> simp <;> omega

theorem cast_row {a b : ℕ} {α : Type} (T : (⟨2, ![a, b]⟩ : Shape).Idx → α) (h : (⟨2, ![a, b]⟩ : Shape).ShapeCasts ⟨3, ![1, a, b]⟩)
    (j : (⟨3, ![1, a, b]⟩ : Shape).Idx) : shapeCast ⟨3, ![1, a, b]⟩ T h j = T (ix2 (j 1) (j 2)) :=
  shapeCast_apply T h _ _ (by
    rw [Shape.rowMajor_val_three, Shape.rowMajor_val_two]
    have h0 : (j 0).val = 0 := by have := (j 0).isLt; simpa using this
    show (j 1).val * b + (j 2).val = ((j 0).val * a + (j 1).val) * b + (j 2).val
    rw [h0]; simp)

/-- A hop owned is its two halves owned. -/
theorem hop_halves (c : Dev nD) (B : Memref sig .tc .vmem S3x512x4096 .bf16) (h : Fin 3) (q : PosShare TreeShare) (T : FVec F S512x4096 .bf16) :
    (owns (c : Thread nD τ) (hopM B h) q T : sProp 𝕄)
      ⊢ iprop(owns (c : Thread nD τ) (halfM B h 0) q (half 0 T) ∗ owns (c : Thread nD τ) (halfM B h 1) q (half 1 T)) := by
  have e : ∀ b : Fin 2, (owns (c : Thread nD τ) (halfM B h b) q (half b T) : sProp 𝕄)
      = owns (c : Thread nD τ) (B.slice (halfR h b) (fun _ => rfl)) q (fun j => (fun i : S3x512x4096.Idx => T (ix2 (i 1) (i 2))) ((halfR h b).emb j)) := by
    intro b
    refine (owns_squeeze (Val := Elt F) (c : Thread nD τ) (B.slice (halfR h b) (fun _ => rfl)) S256x4096 squeezes_S1x256x4096_S256x4096 q (half b T)).trans ?_
    refine congrArg (owns (c : Thread nD τ) (B.slice (halfR h b) (fun _ => rfl)) q) (funext fun j => ?_)
    refine (cast_row (half b T) _ j).trans ?_
    refine congrArg T (funext fun a => Fin.ext ?_)
    match a with
    | ⟨0, _⟩ => rfl
    | ⟨1, _⟩ => rfl
  have e' : (owns (c : Thread nD τ) (hopM B h) q T : sProp 𝕄)
      = owns (c : Thread nD τ) (B.slice (hopR h) (fun _ => rfl)) q (fun j => (fun i : S3x512x4096.Idx => T (ix2 (i 1) (i 2))) ((hopR h).emb j)) := by
    refine (owns_squeeze (Val := Elt F) (c : Thread nD τ) (B.slice (hopR h) (fun _ => rfl)) S512x4096 squeezes_S1x512x4096_S512x4096 q T).trans ?_
    refine congrArg (owns (c : Thread nD τ) (B.slice (hopR h) (fun _ => rfl)) q) (funext fun j => ?_)
    refine (cast_row T _ j).trans ?_
    refine congrArg T (funext fun a => Fin.ext ?_)
    match a with
    | ⟨0, _⟩ => show (j 1).val = 0 + 1 * (j 1).val; omega
    | ⟨1, _⟩ => show (j 2).val = 0 + 1 * (j 2).val; omega
  rw [e 0, e 1, e']
  iintro H
  ihave H := (owns_parts (Val := Elt F) (c : Thread nD τ) B q (hopR h) (fun _ => rfl) (halfR h) (fun _ _ => rfl) (half_disjoint h) (half_cover h)
    (fun i : S3x512x4096.Idx => T (ix2 (i 1) (i 2)))) $$ H
  ihave H := (Entails.of_eq (sep2 _)) $$ H
  iexact H

end Cert.Proof.KernelIdeal
-- ==== Proof.Ideal.Gather.lean ====
/- The first part of the body: the own blocks, the two full hops, the four tails. -/
module

public import proofs.«01_k».proof.Proof.Ideal.Split

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

theorem wp_fetchX (c : Dev nD) (S : List Lk) (kont : PUnit → PR F α) (Q : α → sProp 𝕄) :
    iprop(records m K ∗ owe c S ∗ (owns (c : Thread nD τ) xHi fullShare (topX m c) ∗ owns (c : Thread nD τ) xLo fullShare (botX m c))
        ∗ ((∃ Y, owns (c : Thread nD τ) ownA fullShare Y) ∗ ∃ Y, owns (c : Thread nD τ) ownB fullShare Y)
        ∗ semVal ((c : Thread nD τ), xS 0) 0 ∗ semVal ((c : Thread nD τ), xS 1) 0)
      ⊢ iprop(((owe c S ∗ (owns (c : Thread nD τ) xHi fullShare (topX m c) ∗ owns (c : Thread nD τ) xLo fullShare (botX m c))
            ∗ (owns (c : Thread nD τ) ownA fullShare (topX m c) ∗ owns (c : Thread nD τ) ownB fullShare (botX m c))
            ∗ semVal ((c : Thread nD τ), xS 0) 0 ∗ semVal ((c : Thread nD τ), xS 1) 0) -∗ WP c (kont ⟨⟩) Q)
          -∗ WP c (fetchX >>= kont) Q) := by
  unfold fetchX
  simp only [bind_assoc]
  iintro ⟨#HR, HO, ⟨Hh, Hl⟩, ⟨HA, HB⟩, Hz, Hz'⟩ Hk
  rw [lift_bind]
  iapply (wp_copy c xHi ownA (xS 0) _ Q fullShare (topX m c) (View.dmaCredit_pos _ (by decide))) $$ [Hh HA Hz]
  · isplitl [Hh]; · iexact Hh
    isplitl [HA] <;> iassumption
  iintro Hf
  rw [lift_bind]
  iapply (wp_copy c xLo ownB (xS 1) _ Q fullShare (botX m c) (View.dmaCredit_pos _ (by decide))) $$ [Hl HB Hz']
  · isplitl [Hl]; · iexact Hl
    isplitl [HB] <;> iassumption
  iintro Hf'
  rw [lift_bind]
  iapply (wp_copied m K c xHi ownA (sem2 cc0_scratch9 0) (clOf_xS 0) _ Q _ S) $$ [HO Hf]
  · isplitr; · iexact HR
    isplitl [HO] <;> iassumption
  iintro ⟨HO, Hz, HA, Hh⟩
  rw [lift_bind]
  iapply (wp_copied m K c xLo ownB (sem2 cc0_scratch9 1) (clOf_xS 1) _ Q _ S) $$ [HO Hf']
  · isplitr; · iexact HR
    isplitl [HO] <;> iassumption
  iintro ⟨HO, Hz', HB, Hl⟩
  iapply Hk
  isplitl [HO]; · iexact HO
  isplitl [Hh Hl]; · isplitl [Hh] <;> iassumption
  isplitl [HA HB]; · isplitl [HA] <;> iassumption
  isplitl [Hz] <;> iassumption

/-- All a link needs to go out, but its source. -/
def pend (c : Dev nD) (k : Lk) : sProp 𝕄 := iprop(toks c k ∗ atPos ER (cell c (.snd k)) 0 ∅ 0)

/-- A send, the place it lands in given apart. -/
theorem wp_go (c : Dev nD) (k : Lk) (S : List Lk) (kont : PUnit → PR F α) (Q : α → sProp 𝕄) :
    iprop(records m K ∗ owe c (k :: S) ∗ pend c k ∗ land (tgt c k) k ∗ owns (c : Thread nD τ) (lnk k).src (qS k) (carried m c k))
      ⊢ iprop(((owe c S ∗ sending c k) -∗ WP c (kont ⟨⟩) Q) -∗ WP c (send c k >>= kont) Q) := by
  unfold pend
  iintro ⟨HR, HO, ⟨Ht, Ha⟩, Hl, Hs⟩
  iapply (wp_send m K c k S kont Q) $$ [HR HO Ht Ha Hl Hs]
  isplitl [HR]; · iexact HR
  isplitl [HO]; · iexact HO
  isplitl [Ht]; · iexact Ht
  isplitl [Ha]; · iexact Ha
  isplitl [Hs] <;> iassumption

/-- What the first part has in hand of the output and the staging slots. -/
abbrev stores4 (c : Dev nD) (i : Fin 4 → Fin 16) : sProp 𝕄 :=
  iprop((storing c 0 (i 0) (piece m c (i 0)) ∗ storing c 1 (i 1) (piece m c (i 1))) ∗ (storing c 2 (i 2) (piece m c (i 2)) ∗ storing c 3 (i 3) (piece m c (i 3))))
abbrev pcs4 (c : Dev nD) (i : Fin 4 → Fin 16) : sProp 𝕄 :=
  iprop((pc c (i 0) (piece m c (i 0)) ∗ pc c (i 1) (piece m c (i 1))) ∗ (pc c (i 2) (piece m c (i 2)) ∗ pc c (i 3) (piece m c (i 3))))
abbrev any4 (c : Dev nD) (i : Fin 4 → Fin 16) : sProp 𝕄 :=
  iprop((anyPc c (i 0) ∗ anyPc c (i 1)) ∗ (anyPc c (i 2) ∗ anyPc c (i 3)))

/-- The own blocks. -/
theorem wp_own (c : Dev nD) (kont : F .f32 → F .f32 → PR F α) (Q : α → sProp 𝕄) :
    iprop((owns (c : Thread nD τ) ownA fullShare.left (topX m c) ∗ owns (c : Thread nD τ) ownB fullShare.left (botX m c))
        ∗ owns (c : Thread nD τ) wM fullShare (wX m c)
        ∗ ((anySlot c 0 ∗ anySlot c 1) ∗ (anySlot c 2 ∗ anySlot c 3)) ∗ any4 c ![0, 1, 2, 3] ∗ ((stZ c 0 ∗ stZ c 1) ∗ (stZ c 2 ∗ stZ c 3)))
      ⊢ iprop((((owns (c : Thread nD τ) ownA fullShare.left (topX m c) ∗ owns (c : Thread nD τ) ownB fullShare.left (botX m c))
            ∗ owns (c : Thread nD τ) wM fullShare (wX m c) ∗ stores4 m c ![0, 1, 2, 3])
            -∗ WP c (kont (max5 (blk5 m c (topX m c))) (max5 (blk5 m c (botX m c)))) Q)
          -∗ WP c (blockOwn c ownA 0 1 0 1 >>= fun a0 => blockOwn c ownB 2 3 2 3 >>= fun a1 => kont a0 a1) Q) := by
  iintro ⟨⟨HA, HB⟩, HW, ⟨Hs, Hs'⟩, ⟨Hp, Hp'⟩, ⟨⟨Hz, Hz1⟩, Hz2, Hz3⟩⟩ Hk
  iapply (wp_blockOwn c ownA 0 1 0 1 fullShare.left fullShare (topX m c) (wX m c)) $$ [HA HW Hs Hp Hz Hz1]
  · isplitl [HA]; · iexact HA
    isplitl [HW]; · iexact HW
    isplitl [Hs]; · iexact Hs
    isplitl [Hp]; · iexact Hp
    isplitl [Hz] <;> iassumption
  iintro ⟨HA, HW, H0, H1⟩
  iapply (wp_blockOwn c ownB 2 3 2 3 fullShare.left fullShare (botX m c) (wX m c)) $$ [HB HW Hs' Hp' Hz2 Hz3]
  · isplitl [HB]; · iexact HB
    isplitl [HW]; · iexact HW
    isplitl [Hs']; · iexact Hs'
    isplitl [Hp']; · iexact Hp'
    isplitl [Hz2] <;> iassumption
  iintro ⟨HB, HW, H2, H3⟩
  iapply Hk
  isplitl [HA HB]; · isplitl [HA] <;> iassumption
  isplitl [HW]; · iexact HW
  isplitl [H0 H1]
  · isplitl [H0]; · iexact H0
    iexact H1
  · isplitl [H2]; · iexact H2
    iexact H3

/-- The first hop: it is passed on, and multiplied. -/
theorem wp_hop0 (c : Dev nD) (S : List Lk) (h : ∀ k' ∈ Lk.r 1 :: Lk.l 1 :: S, 2 < lvl k') (kont : F .f32 → F .f32 → PR F α) (Q : α → sProp 𝕄) :
    iprop(records m K ∗ owe c (Lk.r 1 :: Lk.l 1 :: S) ∗ (coming c (.r 0) ∗ coming c (.l 0)) ∗ (pend c (.r 1) ∗ land (tgt c (.r 1)) (.r 1)) ∗ (pend c (.l 1) ∗ land (tgt c (.l 1)) (.l 1))
        ∗ owns (c : Thread nD τ) wM fullShare (wX m c) ∗ stores4 m c ![0, 1, 2, 3] ∗ any4 c ![4, 5, 6, 7])
      ⊢ iprop(((owe c S ∗ (semVal (cell c (.rcv (.r 0))) 0 ∗ semVal (cell c (.rcv (.l 0))) 0) ∗ (sending c (.r 1) ∗ sending c (.l 1))
            ∗ (owns (c : Thread nD τ) (hopM comA 0) fullShare.left (topX m (prv c)) ∗ owns (c : Thread nD τ) (hopM comB 0) fullShare.left (botX m (nxt c)))
            ∗ owns (c : Thread nD τ) wM fullShare (wX m c) ∗ pcs4 m c ![0, 1, 2, 3] ∗ stores4 m c ![4, 5, 6, 7])
            -∗ WP c (kont (max5 (blk5 m c (topX m (prv c)))) (max5 (blk5 m c (botX m (nxt c))))) Q)
          -∗ WP c (recv (.r 0) >>= fun _ => recv (.l 0) >>= fun _ => send c (.r 1) >>= fun _ => send c (.l 1) >>= fun _ =>
              blockHop c comA 0 0 1 0 1 4 5 >>= fun a2 => blockHop c comB 0 2 3 2 3 6 7 >>= fun a3 => kont a2 a3) Q) := by
  iintro ⟨#HR, HO, ⟨Hc, Hc'⟩, ⟨Ht, Hl⟩, ⟨Ht', Hl'⟩, HW, ⟨Hs, Hs'⟩, ⟨Hp, Hp'⟩⟩ Hk
  iapply (wp_recv m K c (.r 0) (.r 1 :: .l 1 :: S) h) $$ [HO Hc]
  · isplitr; · iexact HR
    isplitl [HO] <;> iassumption
  iintro ⟨HO, Hv, HX⟩
  iapply (wp_recv m K c (.l 0) (.r 1 :: .l 1 :: S) h) $$ [HO Hc']
  · isplitr; · iexact HR
    isplitl [HO] <;> iassumption
  iintro ⟨HO, Hv', HY⟩
  ihave HX := (show (owns (c : Thread nD τ) (lnk (.r 0)).dst fullShare (carried m (frm c (.r 0)) (.r 0)) : sProp 𝕄)
      ⊢ iprop(owns (c : Thread nD τ) (hopM comA 0) fullShare.left (topX m (prv c)) ∗ owns (c : Thread nD τ) (hopM comA 0) fullShare.right (topX m (prv c)))
    from owns_share (Val := Elt F) (c : Thread nD τ) (hopM comA 0) fullShare (topX m (prv c))) $$ HX
  icases HX with ⟨HX, HX'⟩
  ihave HY := (show (owns (c : Thread nD τ) (lnk (.l 0)).dst fullShare (carried m (frm c (.l 0)) (.l 0)) : sProp 𝕄)
      ⊢ iprop(owns (c : Thread nD τ) (hopM comB 0) fullShare.left (botX m (nxt c)) ∗ owns (c : Thread nD τ) (hopM comB 0) fullShare.right (botX m (nxt c)))
    from owns_share (Val := Elt F) (c : Thread nD τ) (hopM comB 0) fullShare (botX m (nxt c))) $$ HY
  icases HY with ⟨HY, HY'⟩
  iapply (wp_go m K c (.r 1) (.l 1 :: S)) $$ [HO Ht Hl HX']
  · isplitr; · iexact HR
    isplitl [HO]; · iexact HO
    isplitl [Ht]; · iexact Ht
    isplitl [Hl]; · iexact Hl
    iexact HX'
  iintro ⟨HO, Hd⟩
  iapply (wp_go m K c (.l 1) S) $$ [HO Ht' Hl' HY']
  · isplitr; · iexact HR
    isplitl [HO]; · iexact HO
    isplitl [Ht']; · iexact Ht'
    isplitl [Hl']; · iexact Hl'
    iexact HY'
  iintro ⟨HO, Hd'⟩
  iapply (wp_blockHop m K c comA 0 0 1 0 1 4 5 fullShare.left fullShare (topX m (prv c)) (wX m c) (piece m c 0) (piece m c 1) S) $$ [HO HX HW Hs Hp]
  · isplitr; · iexact HR
    isplitl [HO]; · iexact HO
    isplitl [HX]; · iexact HX
    isplitl [HW]; · iexact HW
    isplitl [Hs]; · iexact Hs
    iexact Hp
  iintro ⟨HO, HX, HW, Hp, H0, H1⟩
  iapply (wp_blockHop m K c comB 0 2 3 2 3 6 7 fullShare.left fullShare (botX m (nxt c)) (wX m c) (piece m c 2) (piece m c 3) S) $$ [HO HY HW Hs' Hp']
  · isplitr; · iexact HR
    isplitl [HO]; · iexact HO
    isplitl [HY]; · iexact HY
    isplitl [HW]; · iexact HW
    isplitl [Hs']; · iexact Hs'
    iexact Hp'
  iintro ⟨HO, HY, HW, Hp', H2, H3⟩
  iapply Hk
  isplitl [HO]; · iexact HO
  isplitl [Hv Hv']; · isplitl [Hv] <;> iassumption
  isplitl [Hd Hd']; · isplitl [Hd] <;> iassumption
  isplitl [HX HY]; · isplitl [HX] <;> iassumption
  isplitl [HW]; · iexact HW
  isplitl [Hp Hp']
  · isplitl [Hp]; · iexact Hp
    iexact Hp'
  isplitl [H0 H1]
  · isplitl [H0]; · iexact H0
    iexact H1
  · isplitl [H2]; · iexact H2
    iexact H3

/-- The second hop: its halves are passed on apart, and it is multiplied. -/
theorem wp_hop1 (c : Dev nD) (S : List Lk) (h : ∀ k' ∈ Lk.r 2 :: Lk.r 3 :: Lk.l 2 :: Lk.l 3 :: S, 3 < lvl k') (kont : F .f32 → F .f32 → PR F α) (Q : α → sProp 𝕄) :
    iprop(records m K ∗ owe c (Lk.r 2 :: Lk.r 3 :: Lk.l 2 :: Lk.l 3 :: S) ∗ (coming c (.r 1) ∗ coming c (.l 1))
        ∗ ((pend c (.r 2) ∗ land (tgt c (.r 2)) (.r 2)) ∗ (pend c (.r 3) ∗ land (tgt c (.r 3)) (.r 3)) ∗ (pend c (.l 2) ∗ land (tgt c (.l 2)) (.l 2)) ∗ (pend c (.l 3) ∗ land (tgt c (.l 3)) (.l 3)))
        ∗ owns (c : Thread nD τ) wM fullShare (wX m c) ∗ stores4 m c ![4, 5, 6, 7] ∗ any4 c ![8, 9, 10, 11])
      ⊢ iprop(((owe c S ∗ (semVal (cell c (.rcv (.r 1))) 0 ∗ semVal (cell c (.rcv (.l 1))) 0) ∗ (sending c (.r 2) ∗ sending c (.r 3) ∗ sending c (.l 2) ∗ sending c (.l 3))
            ∗ (owns (c : Thread nD τ) (hopM comA 1) fullShare.left (topX m (prv (prv c))) ∗ owns (c : Thread nD τ) (hopM comB 1) fullShare.left (botX m (nxt (nxt c))))
            ∗ owns (c : Thread nD τ) wM fullShare (wX m c) ∗ pcs4 m c ![4, 5, 6, 7] ∗ stores4 m c ![8, 9, 10, 11])
            -∗ WP c (kont (max5 (blk5 m c (topX m (prv (prv c))))) (max5 (blk5 m c (botX m (nxt (nxt c)))))) Q)
          -∗ WP c (recv (.r 1) >>= fun _ => recv (.l 1) >>= fun _ => send c (.r 2) >>= fun _ => send c (.r 3) >>= fun _ => send c (.l 2) >>= fun _ => send c (.l 3) >>= fun _ =>
              blockHop c comA 1 0 1 4 5 8 9 >>= fun a4 => blockHop c comB 1 2 3 6 7 10 11 >>= fun a5 => kont a4 a5) Q) := by
  iintro ⟨#HR, HO, ⟨Hc, Hc'⟩, ⟨⟨Ht2, Hl2⟩, ⟨Ht3, Hl3⟩, ⟨Ht2', Hl2'⟩, ⟨Ht3', Hl3'⟩⟩, HW, ⟨Hs, Hs'⟩, ⟨Hp, Hp'⟩⟩ Hk
  iapply (wp_recv m K c (.r 1) (Lk.r 2 :: Lk.r 3 :: Lk.l 2 :: Lk.l 3 :: S) h) $$ [HO Hc]
  · isplitr; · iexact HR
    isplitl [HO] <;> iassumption
  iintro ⟨HO, Hv, HX⟩
  iapply (wp_recv m K c (.l 1) (Lk.r 2 :: Lk.r 3 :: Lk.l 2 :: Lk.l 3 :: S) h) $$ [HO Hc']
  · isplitr; · iexact HR
    isplitl [HO] <;> iassumption
  iintro ⟨HO, Hv', HY⟩
  ihave HX := (show (owns (c : Thread nD τ) (lnk (.r 1)).dst fullShare (carried m (frm c (.r 1)) (.r 1)) : sProp 𝕄)
      ⊢ iprop(owns (c : Thread nD τ) (hopM comA 1) fullShare.left (topX m (prv (prv c))) ∗ owns (c : Thread nD τ) (hopM comA 1) fullShare.right (topX m (prv (prv c))))
    from owns_share (Val := Elt F) (c : Thread nD τ) (hopM comA 1) fullShare (topX m (prv (prv c)))) $$ HX
  icases HX with ⟨HX, HX'⟩
  ihave HY := (show (owns (c : Thread nD τ) (lnk (.l 1)).dst fullShare (carried m (frm c (.l 1)) (.l 1)) : sProp 𝕄)
      ⊢ iprop(owns (c : Thread nD τ) (hopM comB 1) fullShare.left (botX m (nxt (nxt c))) ∗ owns (c : Thread nD τ) (hopM comB 1) fullShare.right (botX m (nxt (nxt c))))
    from owns_share (Val := Elt F) (c : Thread nD τ) (hopM comB 1) fullShare (botX m (nxt (nxt c)))) $$ HY
  icases HY with ⟨HY, HY'⟩
  ihave HX' := (hop_halves c comA 1 fullShare.right (topX m (prv (prv c)))) $$ HX'
  icases HX' with ⟨HX2, HX3⟩
  ihave HY' := (hop_halves c comB 1 fullShare.right (botX m (nxt (nxt c)))) $$ HY'
  icases HY' with ⟨HY2, HY3⟩
  iapply (wp_go m K c (.r 2) (.r 3 :: .l 2 :: .l 3 :: S)) $$ [HO Ht2 Hl2 HX2]
  · isplitr; · iexact HR
    isplitl [HO]; · iexact HO
    isplitl [Ht2]; · iexact Ht2
    isplitl [Hl2]; · iexact Hl2
    iexact HX2
  iintro ⟨HO, Hd2⟩
  iapply (wp_go m K c (.r 3) (.l 2 :: .l 3 :: S)) $$ [HO Ht3 Hl3 HX3]
  · isplitr; · iexact HR
    isplitl [HO]; · iexact HO
    isplitl [Ht3]; · iexact Ht3
    isplitl [Hl3]; · iexact Hl3
    iexact HX3
  iintro ⟨HO, Hd3⟩
  iapply (wp_go m K c (.l 2) (.l 3 :: S)) $$ [HO Ht2' Hl2' HY2]
  · isplitr; · iexact HR
    isplitl [HO]; · iexact HO
    isplitl [Ht2']; · iexact Ht2'
    isplitl [Hl2']; · iexact Hl2'
    iexact HY2
  iintro ⟨HO, Hd2'⟩
  iapply (wp_go m K c (.l 3) (S)) $$ [HO Ht3' Hl3' HY3]
  · isplitr; · iexact HR
    isplitl [HO]; · iexact HO
    isplitl [Ht3']; · iexact Ht3'
    isplitl [Hl3']; · iexact Hl3'
    iexact HY3
  iintro ⟨HO, Hd3'⟩
  iapply (wp_blockHop m K c comA 1 0 1 4 5 8 9 fullShare.left fullShare (topX m (prv (prv c))) (wX m c) (piece m c 4) (piece m c 5) S) $$ [HO HX HW Hs Hp]
  · isplitr; · iexact HR
    isplitl [HO]; · iexact HO
    isplitl [HX]; · iexact HX
    isplitl [HW]; · iexact HW
    isplitl [Hs]; · iexact Hs
    iexact Hp
  iintro ⟨HO, HX, HW, Hp, H0, H1⟩
  iapply (wp_blockHop m K c comB 1 2 3 6 7 10 11 fullShare.left fullShare (botX m (nxt (nxt c))) (wX m c) (piece m c 6) (piece m c 7) S) $$ [HO HY HW Hs' Hp']
  · isplitr; · iexact HR
    isplitl [HO]; · iexact HO
    isplitl [HY]; · iexact HY
    isplitl [HW]; · iexact HW
    isplitl [Hs']; · iexact Hs'
    iexact Hp'
  iintro ⟨HO, HY, HW, Hp', H2, H3⟩
  iapply Hk
  isplitl [HO]; · iexact HO
  isplitl [Hv Hv']; · isplitl [Hv] <;> iassumption
  isplitl [Hd2 Hd3 Hd2' Hd3']
  · isplitl [Hd2]; · iexact Hd2
    isplitl [Hd3]; · iexact Hd3
    isplitl [Hd2'] <;> iassumption
  isplitl [HX HY]; · isplitl [HX] <;> iassumption
  isplitl [HW]; · iexact HW
  isplitl [Hp Hp']
  · isplitl [Hp]; · iexact Hp
    iexact Hp'
  isplitl [H0 H1]
  · isplitl [H0]; · iexact H0
    iexact H1
  · isplitl [H2]; · iexact H2
    iexact H3

/-- The slots hold the last four pieces, nothing under way. -/
abbrev slots4 (c : Dev nD) (i : Fin 4 → Fin 16) : sProp 𝕄 :=
  iprop((slot c 0 (piece m c (i 0)) ∗ slot c 1 (piece m c (i 1))) ∗ (slot c 2 (piece m c (i 2)) ∗ slot c 3 (piece m c (i 3))))

/-- The tails. -/
theorem wp_tails (c : Dev nD) (S : List Lk) (h : ∀ k' ∈ S, 4 < lvl k') (kont : F .f32 → F .f32 → F .f32 → F .f32 → PR F α) (Q : α → sProp 𝕄) :
    iprop(records m K ∗ owe c S ∗ (coming c (.r 2) ∗ coming c (.l 2) ∗ coming c (.r 3) ∗ coming c (.l 3)) ∗ owns (c : Thread nD τ) wM fullShare (wX m c) ∗ stores4 m c ![8, 9, 10, 11])
      ⊢ iprop(((owe c S ∗ (semVal (cell c (.rcv (.r 2))) 0 ∗ semVal (cell c (.rcv (.l 2))) 0 ∗ semVal (cell c (.rcv (.r 3))) 0 ∗ semVal (cell c (.rcv (.l 3))) 0)
            ∗ (owns (c : Thread nD τ) (halfM comA 2 0) fullShare (half 0 (topX m (prv (prv (prv c))))) ∗ owns (c : Thread nD τ) (halfM comB 2 0) fullShare (half 0 (botX m (nxt (nxt (nxt c))))) ∗ owns (c : Thread nD τ) (halfM comA 2 1) fullShare (half 1 (topX m (prv (prv (prv c))))) ∗ owns (c : Thread nD τ) (halfM comB 2 1) fullShare (half 1 (botX m (nxt (nxt (nxt c))))))
            ∗ owns (c : Thread nD τ) wM fullShare (wX m c) ∗ pcs4 m c ![8, 9, 10, 11] ∗ ((stZ c 0 ∗ stZ c 1) ∗ (stZ c 2 ∗ stZ c 3)) ∗ slots4 m c ![12, 13, 14, 15])
            -∗ WP c (kont (max2 (piece m c 12)) (max2 (piece m c 13)) (max2 (piece m c 14)) (max2 (piece m c 15))) Q)
          -∗ WP c (tail c (.r 2) comA 0 0 8 >>= fun b0 => tail c (.l 2) comB 0 1 9 >>= fun b1 => tail c (.r 3) comA 1 2 10 >>= fun b2 => tail c (.l 3) comB 1 3 11 >>= fun b3 => kont b0 b1 b2 b3) Q) := by
  iintro ⟨#HR, HO, ⟨Hc0, Hc1, Hc2, Hc3⟩, HW, ⟨⟨Hs0, Hs1⟩, ⟨Hs2, Hs3⟩⟩⟩ Hk
  iapply (wp_tail m K c (.r 2) comA 0 0 8 fullShare (half 0 (topX m (prv (prv (prv c))))) (wX m c) (piece m c 8) S .rfl h) $$ [HO Hc0 HW Hs0]
  · isplitr; · iexact HR
    isplitl [HO]; · iexact HO
    isplitl [Hc0]; · iexact Hc0
    isplitl [HW]; · iexact HW
    iexact Hs0
  iintro ⟨HO, Hv0, HX0, HW, Hp0, Hz0, Hs0⟩
  iapply (wp_tail m K c (.l 2) comB 0 1 9 fullShare (half 0 (botX m (nxt (nxt (nxt c))))) (wX m c) (piece m c 9) S .rfl h) $$ [HO Hc1 HW Hs1]
  · isplitr; · iexact HR
    isplitl [HO]; · iexact HO
    isplitl [Hc1]; · iexact Hc1
    isplitl [HW]; · iexact HW
    iexact Hs1
  iintro ⟨HO, Hv1, HX1, HW, Hp1, Hz1, Hs1⟩
  iapply (wp_tail m K c (.r 3) comA 1 2 10 fullShare (half 1 (topX m (prv (prv (prv c))))) (wX m c) (piece m c 10) S .rfl h) $$ [HO Hc2 HW Hs2]
  · isplitr; · iexact HR
    isplitl [HO]; · iexact HO
    isplitl [Hc2]; · iexact Hc2
    isplitl [HW]; · iexact HW
    iexact Hs2
  iintro ⟨HO, Hv2, HX2, HW, Hp2, Hz2, Hs2⟩
  iapply (wp_tail m K c (.l 3) comB 1 3 11 fullShare (half 1 (botX m (nxt (nxt (nxt c))))) (wX m c) (piece m c 11) S .rfl h) $$ [HO Hc3 HW Hs3]
  · isplitr; · iexact HR
    isplitl [HO]; · iexact HO
    isplitl [Hc3]; · iexact Hc3
    isplitl [HW]; · iexact HW
    iexact Hs3
  iintro ⟨HO, Hv3, HX3, HW, Hp3, Hz3, Hs3⟩
  iapply Hk
  isplitl [HO]; · iexact HO
  isplitl [Hv0 Hv1 Hv2 Hv3]
  · isplitl [Hv0]; · iexact Hv0
    isplitl [Hv1]; · iexact Hv1
    isplitl [Hv2]; · iexact Hv2
    iexact Hv3
  isplitl [HX0 HX1 HX2 HX3]
  · isplitl [HX0]; · iexact HX0
    isplitl [HX1]; · iexact HX1
    isplitl [HX2]; · iexact HX2
    iexact HX3
  isplitl [HW]; · iexact HW
  isplitl [Hp0 Hp1 Hp2 Hp3]
  · isplitl [Hp0 Hp1]
    · isplitl [Hp0]; · iexact Hp0
      iexact Hp1
    · isplitl [Hp2]; · iexact Hp2
      iexact Hp3
  isplitl [Hz0 Hz1 Hz2 Hz3]
  · isplitl [Hz0 Hz1]
    · isplitl [Hz0]; · iexact Hz0
      iexact Hz1
    · isplitl [Hz2]; · iexact Hz2
      iexact Hz3
  isplitl [Hs0 Hs1]
  · isplitl [Hs0]; · iexact Hs0
    iexact Hs1
  · isplitl [Hs2]; · iexact Hs2
    iexact Hs3

end Cert.Proof.KernelIdeal
-- ==== Proof.Ideal.First.lean ====
/- The whole of the first part of the body. -/
module

public import proofs.«01_k».proof.Proof.Ideal.Gather

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

/-- The eight links of the ring. -/
abbrev ring8 (f : Lk → sProp 𝕄) : sProp 𝕄 :=
  iprop((f (.r 0) ∗ f (.l 0)) ∗ (f (.r 1) ∗ f (.l 1)) ∗ (f (.r 2) ∗ f (.r 3) ∗ f (.l 2) ∗ f (.l 3)))
/-- The three links of the maxima. -/
abbrev max3 (f : Lk → sProp 𝕄) : sProp 𝕄 := iprop(f (.a 0) ∗ f (.a 1) ∗ f (.a 2))

/-- The local copies' four store semaphores at zero. -/
abbrev stZ4 (c : Dev nD) : sProp 𝕄 := iprop((stZ c 0 ∗ stZ c 1) ∗ (stZ c 2 ∗ stZ c 3))

/-- What stays as it is through the body: the argument, its copies' semaphores. -/
abbrev argX (c : Dev nD) : sProp 𝕄 :=
  iprop((owns (c : Thread nD τ) xHi fullShare (topX m c) ∗ owns (c : Thread nD τ) xLo fullShare (botX m c)) ∗ semVal ((c : Thread nD τ), xS 0) 0 ∗ semVal ((c : Thread nD τ), xS 1) 0)

/-- What the ring leaves on a device, its lent shares apart. -/
abbrev landed (c : Dev nD) : sProp 𝕄 :=
  iprop((owns (c : Thread nD τ) ownA fullShare.left (topX m c) ∗ owns (c : Thread nD τ) ownB fullShare.left (botX m c))
    ∗ (owns (c : Thread nD τ) (hopM comA 0) fullShare.left (topX m (prv c)) ∗ owns (c : Thread nD τ) (hopM comB 0) fullShare.left (botX m (nxt c)))
    ∗ (owns (c : Thread nD τ) (hopM comA 1) fullShare.left (topX m (prv (prv c))) ∗ owns (c : Thread nD τ) (hopM comB 1) fullShare.left (botX m (nxt (nxt c))))
    ∗ (owns (c : Thread nD τ) (halfM comA 2 0) fullShare (half 0 (topX m (prv (prv (prv c))))) ∗ owns (c : Thread nD τ) (halfM comB 2 0) fullShare (half 0 (botX m (nxt (nxt (nxt c)))))
      ∗ owns (c : Thread nD τ) (halfM comA 2 1) fullShare (half 1 (topX m (prv (prv (prv c))))) ∗ owns (c : Thread nD τ) (halfM comB 2 1) fullShare (half 1 (botX m (nxt (nxt (nxt c)))))))

abbrev anyOwn (c : Dev nD) : sProp 𝕄 :=
  iprop((∃ Y, owns (c : Thread nD τ) ownA fullShare Y) ∗ ∃ Y, owns (c : Thread nD τ) ownB fullShare Y)

set_option maxHeartbeats 1000000 in
/-- The barrier, the own halves fetched and sent. -/
theorem wp_open (c : Dev nD) (W : Waits sig Unit) (kont : PUnit → PR F α) (Q : α → sProp 𝕄) :
    iprop(records m K ∗ owes (c : Thread nD τ) (O₀ c) W ∗ barToks c ∗ lands c ∗ argX m c ∗ anyOwn c ∗ (pend c (.r 0) ∗ pend c (.l 0)))
      ⊢ iprop(((owe c [.r 1, .l 1, .r 2, .r 3, .l 2, .l 3, .a 0, .a 1, .a 2] ∗ semVal (cell c .bar) 0 ∗ argX m c
            ∗ (owns (c : Thread nD τ) ownA fullShare.left (topX m c) ∗ owns (c : Thread nD τ) ownB fullShare.left (botX m c)) ∗ (sending c (.r 0) ∗ sending c (.l 0))
            ∗ ((land (tgt c (.r 1)) (.r 1) ∗ land (tgt c (.l 1)) (.l 1)) ∗ (land (tgt c (.r 2)) (.r 2) ∗ land (tgt c (.r 3)) (.r 3) ∗ land (tgt c (.l 2)) (.l 2) ∗ land (tgt c (.l 3)) (.l 3)))
            ∗ max3 fun k => land (tgt c k) k) -∗ WP c (kont ⟨⟩) Q)
          -∗ WP c (barrier c >>= fun _ => fetchX >>= fun _ => send c (.r 0) >>= fun _ => send c (.l 0) >>= kont) Q) := by
  iintro ⟨#HR, HO, Hb, Hl, ⟨Hx, Hxs⟩, Ho, Ht, Ht'⟩ Hk
  iapply (wp_barrier m K c W) $$ [HO Hb Hl]
  · isplitr; · iexact HR
    isplitl [HO]; · iexact HO
    isplitl [Hb] <;> iassumption
  iintro ⟨HO, Hv, Hb0, Hb1, Hb2⟩
  iapply (wp_fetchX m K c order) $$ [HO Hx Ho Hxs]
  · isplitr; · iexact HR
    isplitl [HO]; · iexact HO
    isplitl [Hx]; · iexact Hx
    isplitl [Ho]; · iexact Ho
    iexact Hxs
  iintro ⟨HO, Hx, ⟨HA, HB⟩, Hxs⟩
  ihave Hb0 := (show (barPay (F := F) c 0) ⊢ iprop(land (tgt c (.l 0)) (.l 0) ∗ land (tgt c (.l 1)) (.l 1) ∗ land (tgt c (.l 2)) (.l 2) ∗ land (tgt c (.l 3)) (.l 3) ∗ land (tgt c (.a 2)) (.a 2)) from .rfl) $$ Hb0
  icases Hb0 with ⟨Hl0, Hl1, Hl2, Hl3, Ha2⟩
  ihave Hb2 := (show (barPay (F := F) c 2) ⊢ iprop(land (tgt c (.r 0)) (.r 0) ∗ land (tgt c (.r 1)) (.r 1) ∗ land (tgt c (.r 2)) (.r 2) ∗ land (tgt c (.r 3)) (.r 3) ∗ land (tgt c (.a 0)) (.a 0)) from .rfl) $$ Hb2
  icases Hb2 with ⟨Hr0, Hr1, Hr2, Hr3, Ha0⟩
  ihave Hb1 := (show (barPay (F := F) c 1) ⊢ land (tgt c (.a 1)) (.a 1) from .rfl) $$ Hb1
  ihave HA := (owns_share (Val := Elt F) (c : Thread nD τ) ownA fullShare (topX m c)) $$ HA
  icases HA with ⟨HA, HA'⟩
  ihave HB := (owns_share (Val := Elt F) (c : Thread nD τ) ownB fullShare (botX m c)) $$ HB
  icases HB with ⟨HB, HB'⟩
  iapply (wp_go m K c (.r 0) [.l 0, .r 1, .l 1, .r 2, .r 3, .l 2, .l 3, .a 0, .a 1, .a 2]) $$ [HO Ht Hr0 HA']
  · isplitr; · iexact HR
    isplitl [HO]; · iexact HO
    isplitl [Ht]; · iexact Ht
    isplitl [Hr0]; · iexact Hr0
    iexact HA'
  iintro ⟨HO, Hd⟩
  iapply (wp_go m K c (.l 0) [.r 1, .l 1, .r 2, .r 3, .l 2, .l 3, .a 0, .a 1, .a 2]) $$ [HO Ht' Hl0 HB']
  · isplitr; · iexact HR
    isplitl [HO]; · iexact HO
    isplitl [Ht']; · iexact Ht'
    isplitl [Hl0]; · iexact Hl0
    iexact HB'
  iintro ⟨HO, Hd'⟩
  iapply Hk
  isplitl [HO]; · iexact HO
  isplitl [Hv]; · iexact Hv
  isplitl [Hx Hxs]; · isplitl [Hx] <;> iassumption
  isplitl [HA HB]; · isplitl [HA] <;> iassumption
  isplitl [Hd Hd']; · isplitl [Hd] <;> iassumption
  isplitl [Hr1 Hl1 Hr2 Hr3 Hl2 Hl3]
  · isplitl [Hr1 Hl1]; · isplitl [Hr1] <;> iassumption
    isplitl [Hr2]; · iexact Hr2
    isplitl [Hr3]; · iexact Hr3
    isplitl [Hl2] <;> iassumption
  isplitl [Ha0]; · iexact Ha0
  isplitl [Hb1]; · iexact Hb1
  iexact Ha2

set_option maxHeartbeats 1000000 in
/-- The first part. -/
theorem wp_gather (c : Dev nD) (W : Waits sig Unit) (kont : F .f32 → PR F α) (Q : α → sProp 𝕄) :
    iprop(records m K ∗ owes (c : Thread nD τ) (O₀ c) W ∗ barToks c ∗ lands c ∗ argX m c ∗ anyOwn c ∗ ring8 (pend c) ∗ ring8 (coming c)
        ∗ owns (c : Thread nD τ) wM fullShare (wX m c) ∗ ((anySlot c 0 ∗ anySlot c 1) ∗ (anySlot c 2 ∗ anySlot c 3)) ∗ stZ4 c
        ∗ any4 c ![0, 1, 2, 3] ∗ any4 c ![4, 5, 6, 7] ∗ any4 c ![8, 9, 10, 11])
      ⊢ iprop(((owe c [.a 0, .a 1, .a 2] ∗ semVal (cell c .bar) 0 ∗ argX m c ∗ landed m c ∗ ring8 (sending c) ∗ ring8 (fun k => semVal (cell c (.rcv k)) 0)
            ∗ (max3 fun k => land (tgt c k) k)
            ∗ owns (c : Thread nD τ) wM fullShare (wX m c) ∗ slots4 m c ![12, 13, 14, 15] ∗ stZ4 c
            ∗ pcs4 m c ![0, 1, 2, 3] ∗ pcs4 m c ![4, 5, 6, 7] ∗ pcs4 m c ![8, 9, 10, 11]) -∗ WP c (kont (own m c)) Q)
          -∗ WP c (gather c >>= kont) Q) := by
  unfold gather
  simp only [bind_assoc, pure_bind]
  iintro ⟨#HR, HO, Hb, Hl, Hx, Ho, ⟨Ht0, ⟨Ht1, Ht1'⟩, ⟨Ht2, Ht3, Ht2', Ht3'⟩⟩, ⟨Hc0, Hc1, ⟨Hc2, Hc3, Hc2', Hc3'⟩⟩, HW, Hs, Hz, Hp0, Hp1, Hp2⟩ Hk
  iapply (wp_open m K c W) $$ [HO Hb Hl Hx Ho Ht0]
  · isplitr; · iexact HR
    isplitl [HO]; · iexact HO
    isplitl [Hb]; · iexact Hb
    isplitl [Hl]; · iexact Hl
    isplitl [Hx]; · iexact Hx
    isplitl [Ho] <;> iassumption
  iintro ⟨HO, Hv, Hx, Ho, Hd0, ⟨⟨Hr1, Hl1⟩, ⟨Hr2, Hr3, Hl2, Hl3⟩⟩, Hm⟩
  iapply (wp_own m c) $$ [Ho HW Hs Hp0 Hz]
  · isplitl [Ho]; · iexact Ho
    isplitl [HW]; · iexact HW
    isplitl [Hs]; · iexact Hs
    isplitl [Hp0] <;> iassumption
  iintro ⟨Ho, HW, Hs⟩
  iapply (wp_hop0 m K c [.r 2, .r 3, .l 2, .l 3, .a 0, .a 1, .a 2] (by decide)) $$ [HO Hc0 Ht1 Ht1' Hr1 Hl1 HW Hs Hp1]
  · isplitr; · iexact HR
    isplitl [HO]; · iexact HO
    isplitl [Hc0]; · iexact Hc0
    isplitl [Ht1 Hr1]; · isplitl [Ht1] <;> iassumption
    isplitl [Ht1' Hl1]; · isplitl [Ht1'] <;> iassumption
    isplitl [HW]; · iexact HW
    isplitl [Hs] <;> iassumption
  iintro ⟨HO, Hv0, Hd1, Hh0, HW, Hp0, Hs⟩
  iapply (wp_hop1 m K c [.a 0, .a 1, .a 2] (by decide)) $$ [HO Hc1 Ht2 Ht3 Ht2' Ht3' Hr2 Hr3 Hl2 Hl3 HW Hs Hp2]
  · isplitr; · iexact HR
    isplitl [HO]; · iexact HO
    isplitl [Hc1]; · iexact Hc1
    isplitl [Ht2 Ht3 Ht2' Ht3' Hr2 Hr3 Hl2 Hl3]
    · isplitl [Ht2 Hr2]; · isplitl [Ht2] <;> iassumption
      isplitl [Ht3 Hr3]; · isplitl [Ht3] <;> iassumption
      isplitl [Ht2' Hl2]; · isplitl [Ht2'] <;> iassumption
      isplitl [Ht3'] <;> iassumption
    isplitl [HW]; · iexact HW
    isplitl [Hs] <;> iassumption
  iintro ⟨HO, Hv1, Hd2, Hh1, HW, Hp1, Hs⟩
  iapply (wp_tails m K c [.a 0, .a 1, .a 2] (by decide)) $$ [HO Hc2 Hc3 Hc2' Hc3' HW Hs]
  · isplitr; · iexact HR
    isplitl [HO]; · iexact HO
    isplitl [Hc2 Hc3 Hc2' Hc3']
    · isplitl [Hc2]; · iexact Hc2
      isplitl [Hc2']; · iexact Hc2'
      isplitl [Hc3] <;> iassumption
    isplitl [HW] <;> iassumption
  iintro ⟨HO, ⟨Hw2, Hw2', Hw3, Hw3'⟩, Hh2, HW, Hp2, Hz, Hs⟩
  iapply Hk
  isplitl [HO]; · iexact HO
  isplitl [Hv]; · iexact Hv
  isplitl [Hx]; · iexact Hx
  isplitl [Ho Hh0 Hh1 Hh2]
  · isplitl [Ho]; · iexact Ho
    isplitl [Hh0]; · iexact Hh0
    isplitl [Hh1] <;> iassumption
  isplitl [Hd0 Hd1 Hd2]
  · isplitl [Hd0]; · iexact Hd0
    isplitl [Hd1] <;> iassumption
  isplitl [Hv0 Hv1 Hw2 Hw2' Hw3 Hw3']
  · isplitl [Hv0]; · iexact Hv0
    isplitl [Hv1]; · iexact Hv1
    isplitl [Hw2]; · iexact Hw2
    isplitl [Hw3]; · iexact Hw3
    isplitl [Hw2'] <;> iassumption
  isplitl [Hm]; · iexact Hm
  isplitl [HW]; · iexact HW
  isplitl [Hs]; · iexact Hs
  isplitl [Hz]; · iexact Hz
  isplitl [Hp0]; · iexact Hp0
  isplitl [Hp1] <;> iassumption

end Cert.Proof.KernelIdeal
-- ==== Proof.Ideal.Second.lean ====
/- The second and third parts of the body: the exchange of the maxima, the rescaling. -/
module

public import proofs.«01_k».proof.Proof.Ideal.First

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

/-- The maximum over all devices, in the order device `c` takes it. -/
def glob (c : Dev nD) : F .f32 :=
  Scalar.maximumf (Scalar.maximumf (Scalar.maximumf (own m c)
    (max8 (shapeCast S1x8x128 (box (own m (prv c))) squeezes_S1x8x128_S8x128.numel_eq.symm)))
    (max8 (shapeCast S1x8x128 (box (own m (opp c))) squeezes_S1x8x128_S8x128.numel_eq.symm)))
    (max8 (shapeCast S1x8x128 (box (own m (nxt c))) squeezes_S1x8x128_S8x128.numel_eq.symm))

abbrev boxes (c : Dev nD) : sProp 𝕄 :=
  iprop(owns (c : Thread nD τ) (bxM 0) fullShare (box (own m (prv c))) ∗ owns (c : Thread nD τ) (bxM 1) fullShare (box (own m (opp c)))
    ∗ owns (c : Thread nD τ) (bxM 2) fullShare (box (own m (nxt c))))

set_option maxHeartbeats 1000000 in
/-- The second part. -/
theorem wp_exchange (c : Dev nD) (kont : F .f32 → PR F α) (Q : α → sProp 𝕄) :
    iprop(records m K ∗ owe c [.a 0, .a 1, .a 2] ∗ ring8 (sending c) ∗ (∃ X, owns (c : Thread nD τ) boxM fullShare X) ∗ max3 (pend c) ∗ (max3 fun k => land (tgt c k) k) ∗ max3 (coming c))
      ⊢ iprop(((owe c [] ∗ ring8 (fun k => semVal (cell c (.snd k)) 0) ∗ ring8 (fun k => owns (c : Thread nD τ) (lnk k).src (qS k) (carried m c k))
            ∗ max3 (sending c) ∗ max3 (fun k => semVal (cell c (.rcv k)) 0) ∗ boxes m c) -∗ WP c (kont (glob m c)) Q)
          -∗ WP c (exchange c (own m c) >>= kont) Q) := by
  unfold exchange
  simp only [bind_assoc, pure_bind]
  iintro ⟨#HR, HO, ⟨⟨Hr0, Hl0⟩, ⟨Hr1, Hl1⟩, ⟨Hr2, Hr3, Hl2, Hl3⟩⟩, Hb, ⟨Ht0, Ht1, Ht2⟩, ⟨Hm0, Hm1, Hm2⟩, ⟨Hc0, Hc1, Hc2⟩⟩ Hk
  iapply (wp_sent m K c (.r 0) [.a 0, .a 1, .a 2] (by decide)) $$ [HO Hr0]
  · isplitr; · iexact HR
    isplitl [HO] <;> iassumption
  iintro ⟨HO, Hvr0, Hr0⟩
  iapply (wp_sent m K c (.r 1) [.a 0, .a 1, .a 2] (by decide)) $$ [HO Hr1]
  · isplitr; · iexact HR
    isplitl [HO] <;> iassumption
  iintro ⟨HO, Hvr1, Hr1⟩
  iapply (wp_sent m K c (.r 2) [.a 0, .a 1, .a 2] (by decide)) $$ [HO Hr2]
  · isplitr; · iexact HR
    isplitl [HO] <;> iassumption
  iintro ⟨HO, Hvr2, Hr2⟩
  iapply (wp_sent m K c (.r 3) [.a 0, .a 1, .a 2] (by decide)) $$ [HO Hr3]
  · isplitr; · iexact HR
    isplitl [HO] <;> iassumption
  iintro ⟨HO, Hvr3, Hr3⟩
  iapply (wp_sent m K c (.l 0) [.a 0, .a 1, .a 2] (by decide)) $$ [HO Hl0]
  · isplitr; · iexact HR
    isplitl [HO] <;> iassumption
  iintro ⟨HO, Hvl0, Hl0⟩
  iapply (wp_sent m K c (.l 1) [.a 0, .a 1, .a 2] (by decide)) $$ [HO Hl1]
  · isplitr; · iexact HR
    isplitl [HO] <;> iassumption
  iintro ⟨HO, Hvl1, Hl1⟩
  iapply (wp_sent m K c (.l 2) [.a 0, .a 1, .a 2] (by decide)) $$ [HO Hl2]
  · isplitr; · iexact HR
    isplitl [HO] <;> iassumption
  iintro ⟨HO, Hvl2, Hl2⟩
  iapply (wp_sent m K c (.l 3) [.a 0, .a 1, .a 2] (by decide)) $$ [HO Hl3]
  · isplitr; · iexact HR
    isplitl [HO] <;> iassumption
  iintro ⟨HO, Hvl3, Hl3⟩
  iapply (wp_putBox c (box (own m c))) $$ Hb
  iintro Hb
  ihave Hb := (owns_share (Val := Elt F) (c : Thread nD τ) boxM fullShare (box (own m c))) $$ Hb
  icases Hb with ⟨Hb0, Hb⟩
  ihave Hb := (owns_share (Val := Elt F) (c : Thread nD τ) boxM fullShare.right (box (own m c))) $$ Hb
  icases Hb with ⟨Hb1, Hb2⟩
  iapply (wp_go m K c (.a 0) [.a 1, .a 2]) $$ [HO Ht0 Hm0 Hb0]
  · isplitr; · iexact HR
    isplitl [HO]; · iexact HO
    isplitl [Ht0]; · iexact Ht0
    isplitl [Hm0]; · iexact Hm0
    iexact Hb0
  iintro ⟨HO, Hd0⟩
  iapply (wp_go m K c (.a 1) [.a 2]) $$ [HO Ht1 Hm1 Hb1]
  · isplitr; · iexact HR
    isplitl [HO]; · iexact HO
    isplitl [Ht1]; · iexact Ht1
    isplitl [Hm1]; · iexact Hm1
    iexact Hb1
  iintro ⟨HO, Hd1⟩
  iapply (wp_go m K c (.a 2) []) $$ [HO Ht2 Hm2 Hb2]
  · isplitr; · iexact HR
    isplitl [HO]; · iexact HO
    isplitl [Ht2]; · iexact Ht2
    isplitl [Hm2]; · iexact Hm2
    iexact Hb2
  iintro ⟨HO, Hd2⟩
  iapply (wp_recv m K c (.a 0) [] (by decide)) $$ [HO Hc0]
  · isplitr; · iexact HR
    isplitl [HO] <;> iassumption
  iintro ⟨HO, Hw0, Hx0⟩
  ihave Hx0 := (show (owns (c : Thread nD τ) (lnk (.a 0)).dst fullShare (carried m (frm c (.a 0)) (.a 0)) : sProp 𝕄)
    ⊢ owns (c : Thread nD τ) (bxM 0) fullShare (box (own m (prv c))) from .rfl) $$ Hx0
  iapply (wp_recv m K c (.a 1) [] (by decide)) $$ [HO Hc1]
  · isplitr; · iexact HR
    isplitl [HO] <;> iassumption
  iintro ⟨HO, Hw1, Hx1⟩
  ihave Hx1 := (show (owns (c : Thread nD τ) (lnk (.a 1)).dst fullShare (carried m (frm c (.a 1)) (.a 1)) : sProp 𝕄)
    ⊢ owns (c : Thread nD τ) (bxM 1) fullShare (box (own m (opp c))) from .rfl) $$ Hx1
  iapply (wp_recv m K c (.a 2) [] (by decide)) $$ [HO Hc2]
  · isplitr; · iexact HR
    isplitl [HO] <;> iassumption
  iintro ⟨HO, Hw2, Hx2⟩
  ihave Hx2 := (show (owns (c : Thread nD τ) (lnk (.a 2)).dst fullShare (carried m (frm c (.a 2)) (.a 2)) : sProp 𝕄)
    ⊢ owns (c : Thread nD τ) (bxM 2) fullShare (box (own m (nxt c))) from .rfl) $$ Hx2
  iapply (wp_readBox c 0 fullShare (box (own m (prv c)))) $$ Hx0; iintro Hx0
  iapply (wp_readBox c 1 fullShare (box (own m (opp c)))) $$ Hx1; iintro Hx1
  iapply (wp_readBox c 2 fullShare (box (own m (nxt c)))) $$ Hx2; iintro Hx2
  iapply Hk
  isplitl [HO]; · iexact HO
  isplitl [Hvr0 Hvl0 Hvr1 Hvl1 Hvr2 Hvr3 Hvl2 Hvl3]
  · isplitl [Hvr0 Hvl0]
    · isplitl [Hvr0]; · iexact Hvr0
      iexact Hvl0
    isplitl [Hvr1 Hvl1]
    · isplitl [Hvr1]; · iexact Hvr1
      iexact Hvl1
    isplitl [Hvr2]; · iexact Hvr2
    isplitl [Hvr3]; · iexact Hvr3
    isplitl [Hvl2]; · iexact Hvl2
    iexact Hvl3
  isplitl [Hr0 Hl0 Hr1 Hl1 Hr2 Hr3 Hl2 Hl3]
  · isplitl [Hr0 Hl0]
    · isplitl [Hr0]; · iexact Hr0
      iexact Hl0
    isplitl [Hr1 Hl1]
    · isplitl [Hr1]; · iexact Hr1
      iexact Hl1
    isplitl [Hr2]; · iexact Hr2
    isplitl [Hr3]; · iexact Hr3
    isplitl [Hl2]; · iexact Hl2
    iexact Hl3
  isplitl [Hd0 Hd1 Hd2]
  · isplitl [Hd0]; · iexact Hd0
    isplitl [Hd1]; · iexact Hd1
    iexact Hd2
  isplitl [Hw0 Hw1 Hw2]
  · isplitl [Hw0]; · iexact Hw0
    isplitl [Hw1]; · iexact Hw1
    iexact Hw2
  isplitl [Hx0]; · iexact Hx0
  isplitl [Hx1]; · iexact Hx1
  iexact Hx2

theorem slot_any (c : Dev nD) (j : Fin 4) (X : FVec F S256x2048 .f32) : (slot c j X : sProp 𝕄) ⊢ anySlot c j := by
  unfold anySlot; iintro H; iexists X; iexact H

abbrev ldZ4 (c : Dev nD) : sProp 𝕄 := iprop((ldZ c 0 ∗ ldZ c 1) ∗ (ldZ c 2 ∗ ldZ c 3))
abbrev anySlot4 (c : Dev nD) : sProp 𝕄 := iprop((anySlot c 0 ∗ anySlot c 1) ∗ (anySlot c 2 ∗ anySlot c 3))
/-- Four pieces of the result. -/
abbrev done4 (c : Dev nD) (s t : F .f32) (i : Fin 4 → Fin 16) : sProp 𝕄 :=
  iprop((pc c (i 0) (quant s t (piece m c (i 0))) ∗ pc c (i 1) (quant s t (piece m c (i 1)))) ∗ (pc c (i 2) (quant s t (piece m c (i 2))) ∗ pc c (i 3) (quant s t (piece m c (i 3)))))

set_option maxHeartbeats 2000000 in
/-- The third part. -/
theorem wp_rescale (c : Dev nD) (s t : F .f32) (kont : PUnit → PR F α) (Q : α → sProp 𝕄) :
    iprop(records m K ∗ owe c [] ∗ slots4 m c ![12, 13, 14, 15] ∗ stZ4 c ∗ ldZ4 c ∗ any4 c ![12, 13, 14, 15]
        ∗ pcs4 m c ![0, 1, 2, 3] ∗ pcs4 m c ![4, 5, 6, 7] ∗ pcs4 m c ![8, 9, 10, 11])
      ⊢ iprop(((owe c [] ∗ anySlot4 c ∗ stZ4 c ∗ ldZ4 c
            ∗ done4 m c s t ![0, 1, 2, 3] ∗ done4 m c s t ![4, 5, 6, 7] ∗ done4 m c s t ![8, 9, 10, 11] ∗ done4 m c s t ![12, 13, 14, 15]) -∗ WP c (kont ⟨⟩) Q)
          -∗ WP c (rescale c s t >>= kont) Q) := by
  unfold rescale
  simp only [bind_assoc]
  iintro ⟨#HR, HO, ⟨⟨Hs0, Hs1⟩, ⟨Hs2, Hs3⟩⟩, ⟨⟨Hz0, Hz1⟩, ⟨Hz2, Hz3⟩⟩, ⟨⟨Hl0, Hl1⟩, ⟨Hl2, Hl3⟩⟩, ⟨⟨Hp12, Hp13⟩, ⟨Hp14, Hp15⟩⟩,
    ⟨⟨Hp0, Hp1⟩, ⟨Hp2, Hp3⟩⟩, ⟨⟨Hp4, Hp5⟩, ⟨Hp6, Hp7⟩⟩, ⟨⟨Hp8, Hp9⟩, ⟨Hp10, Hp11⟩⟩⟩ Hk
  iapply (wp_requant c s t 0 12 (piece m c 12)) $$ [Hs0 Hp12 Hz0]
  · isplitl [Hs0]; · iexact Hs0
    isplitl [Hp12]; · iexact Hp12
    iexact Hz0
  iintro Hs0
  iapply (wp_requant c s t 1 13 (piece m c 13)) $$ [Hs1 Hp13 Hz1]
  · isplitl [Hs1]; · iexact Hs1
    isplitl [Hp13]; · iexact Hp13
    iexact Hz1
  iintro Hs1
  iapply (wp_requant c s t 2 14 (piece m c 14)) $$ [Hs2 Hp14 Hz2]
  · isplitl [Hs2]; · iexact Hs2
    isplitl [Hp14]; · iexact Hp14
    iexact Hz2
  iintro Hs2
  iapply (wp_requant c s t 3 15 (piece m c 15)) $$ [Hs3 Hp15 Hz3]
  · isplitl [Hs3]; · iexact Hs3
    isplitl [Hp15]; · iexact Hp15
    iexact Hz3
  iintro Hs3
  iapply (wp_next m K c 0 12 0 (quant s t (piece m c 12)) (piece m c 0) []) $$ [HO Hs0 Hp0 Hl0]
  · isplitr; · iexact HR
    isplitl [HO]; · iexact HO
    isplitl [Hs0]; · iexact Hs0
    isplitl [Hp0]; · iexact Hp0
    iexact Hl0
  iintro ⟨HO, Hp12, Hz0, Hl0⟩
  iapply (wp_next m K c 1 13 1 (quant s t (piece m c 13)) (piece m c 1) []) $$ [HO Hs1 Hp1 Hl1]
  · isplitr; · iexact HR
    isplitl [HO]; · iexact HO
    isplitl [Hs1]; · iexact Hs1
    isplitl [Hp1]; · iexact Hp1
    iexact Hl1
  iintro ⟨HO, Hp13, Hz1, Hl1⟩
  iapply (wp_stepL m K c s t 2 14 2 0 0 (quant s t (piece m c 14)) (piece m c 2) (piece m c 0) []) $$ [HO Hs2 Hp2 Hl2 Hl0 Hz0]
  · isplitr; · iexact HR
    isplitl [HO]; · iexact HO
    isplitl [Hs2 Hp2 Hl2]
    · isplitl [Hs2]; · iexact Hs2
      isplitl [Hp2]; · iexact Hp2
      iexact Hl2
    isplitl [Hl0]; · iexact Hl0
    iexact Hz0
  iintro ⟨HO, ⟨Hp14, Hz2, Hl2⟩, Hl0, Hs0⟩
  iapply (wp_stepL m K c s t 3 15 3 1 1 (quant s t (piece m c 15)) (piece m c 3) (piece m c 1) []) $$ [HO Hs3 Hp3 Hl3 Hl1 Hz1]
  · isplitr; · iexact HR
    isplitl [HO]; · iexact HO
    isplitl [Hs3 Hp3 Hl3]
    · isplitl [Hs3]; · iexact Hs3
      isplitl [Hp3]; · iexact Hp3
      iexact Hl3
    isplitl [Hl1]; · iexact Hl1
    iexact Hz1
  iintro ⟨HO, ⟨Hp15, Hz3, Hl3⟩, Hl1, Hs1⟩
  iapply (wp_stepL m K c s t 0 0 4 2 2 (quant s t (piece m c 0)) (piece m c 4) (piece m c 2) []) $$ [HO Hs0 Hp4 Hl0 Hl2 Hz2]
  · isplitr; · iexact HR
    isplitl [HO]; · iexact HO
    isplitl [Hs0 Hp4 Hl0]
    · isplitl [Hs0]; · iexact Hs0
      isplitl [Hp4]; · iexact Hp4
      iexact Hl0
    isplitl [Hl2]; · iexact Hl2
    iexact Hz2
  iintro ⟨HO, ⟨Hp0, Hz0, Hl0⟩, Hl2, Hs2⟩
  iapply (wp_stepL m K c s t 1 1 5 3 3 (quant s t (piece m c 1)) (piece m c 5) (piece m c 3) []) $$ [HO Hs1 Hp5 Hl1 Hl3 Hz3]
  · isplitr; · iexact HR
    isplitl [HO]; · iexact HO
    isplitl [Hs1 Hp5 Hl1]
    · isplitl [Hs1]; · iexact Hs1
      isplitl [Hp5]; · iexact Hp5
      iexact Hl1
    isplitl [Hl3]; · iexact Hl3
    iexact Hz3
  iintro ⟨HO, ⟨Hp1, Hz1, Hl1⟩, Hl3, Hs3⟩
  iapply (wp_stepL m K c s t 2 2 6 0 4 (quant s t (piece m c 2)) (piece m c 6) (piece m c 4) []) $$ [HO Hs2 Hp6 Hl2 Hl0 Hz0]
  · isplitr; · iexact HR
    isplitl [HO]; · iexact HO
    isplitl [Hs2 Hp6 Hl2]
    · isplitl [Hs2]; · iexact Hs2
      isplitl [Hp6]; · iexact Hp6
      iexact Hl2
    isplitl [Hl0]; · iexact Hl0
    iexact Hz0
  iintro ⟨HO, ⟨Hp2, Hz2, Hl2⟩, Hl0, Hs0⟩
  iapply (wp_stepL m K c s t 3 3 7 1 5 (quant s t (piece m c 3)) (piece m c 7) (piece m c 5) []) $$ [HO Hs3 Hp7 Hl3 Hl1 Hz1]
  · isplitr; · iexact HR
    isplitl [HO]; · iexact HO
    isplitl [Hs3 Hp7 Hl3]
    · isplitl [Hs3]; · iexact Hs3
      isplitl [Hp7]; · iexact Hp7
      iexact Hl3
    isplitl [Hl1]; · iexact Hl1
    iexact Hz1
  iintro ⟨HO, ⟨Hp3, Hz3, Hl3⟩, Hl1, Hs1⟩
  iapply (wp_stepL m K c s t 0 4 8 2 6 (quant s t (piece m c 4)) (piece m c 8) (piece m c 6) []) $$ [HO Hs0 Hp8 Hl0 Hl2 Hz2]
  · isplitr; · iexact HR
    isplitl [HO]; · iexact HO
    isplitl [Hs0 Hp8 Hl0]
    · isplitl [Hs0]; · iexact Hs0
      isplitl [Hp8]; · iexact Hp8
      iexact Hl0
    isplitl [Hl2]; · iexact Hl2
    iexact Hz2
  iintro ⟨HO, ⟨Hp4, Hz0, Hl0⟩, Hl2, Hs2⟩
  iapply (wp_stepL m K c s t 1 5 9 3 7 (quant s t (piece m c 5)) (piece m c 9) (piece m c 7) []) $$ [HO Hs1 Hp9 Hl1 Hl3 Hz3]
  · isplitr; · iexact HR
    isplitl [HO]; · iexact HO
    isplitl [Hs1 Hp9 Hl1]
    · isplitl [Hs1]; · iexact Hs1
      isplitl [Hp9]; · iexact Hp9
      iexact Hl1
    isplitl [Hl3]; · iexact Hl3
    iexact Hz3
  iintro ⟨HO, ⟨Hp5, Hz1, Hl1⟩, Hl3, Hs3⟩
  iapply (wp_stepL m K c s t 2 6 10 0 8 (quant s t (piece m c 6)) (piece m c 10) (piece m c 8) []) $$ [HO Hs2 Hp10 Hl2 Hl0 Hz0]
  · isplitr; · iexact HR
    isplitl [HO]; · iexact HO
    isplitl [Hs2 Hp10 Hl2]
    · isplitl [Hs2]; · iexact Hs2
      isplitl [Hp10]; · iexact Hp10
      iexact Hl2
    isplitl [Hl0]; · iexact Hl0
    iexact Hz0
  iintro ⟨HO, ⟨Hp6, Hz2, Hl2⟩, Hl0, Hs0⟩
  iapply (wp_stepL m K c s t 3 7 11 1 9 (quant s t (piece m c 7)) (piece m c 11) (piece m c 9) []) $$ [HO Hs3 Hp11 Hl3 Hl1 Hz1]
  · isplitr; · iexact HR
    isplitl [HO]; · iexact HO
    isplitl [Hs3 Hp11 Hl3]
    · isplitl [Hs3]; · iexact Hs3
      isplitl [Hp11]; · iexact Hp11
      iexact Hl3
    isplitl [Hl1]; · iexact Hl1
    iexact Hz1
  iintro ⟨HO, ⟨Hp7, Hz3, Hl3⟩, Hl1, Hs1⟩
  iapply (wp_stepN m K c s t 0 8 2 10 (quant s t (piece m c 8)) (piece m c 10) []) $$ [HO Hs0 Hl2 Hz2]
  · isplitr; · iexact HR
    isplitl [HO]; · iexact HO
    isplitl [Hs0]; · iexact Hs0
    isplitl [Hl2]; · iexact Hl2
    iexact Hz2
  iintro ⟨HO, ⟨Hz0, Hp8, Hs0⟩, Hl2, Hs2⟩
  iapply (wp_stepN m K c s t 1 9 3 11 (quant s t (piece m c 9)) (piece m c 11) []) $$ [HO Hs1 Hl3 Hz3]
  · isplitr; · iexact HR
    isplitl [HO]; · iexact HO
    isplitl [Hs1]; · iexact Hs1
    isplitl [Hl3]; · iexact Hl3
    iexact Hz3
  iintro ⟨HO, ⟨Hz1, Hp9, Hs1⟩, Hl3, Hs3⟩
  iapply (wp_storedStep m K c 2 10 (quant s t (piece m c 10)) []) $$ [HO Hs2]
  · isplitr; · iexact HR
    isplitl [HO]; · iexact HO
    iexact Hs2
  iintro ⟨HO, Hz2, Hp10, Hs2⟩
  iapply (wp_storedStep m K c 3 11 (quant s t (piece m c 11)) []) $$ [HO Hs3]
  · isplitr; · iexact HR
    isplitl [HO]; · iexact HO
    iexact Hs3
  iintro ⟨HO, Hz3, Hp11, Hs3⟩
  iapply Hk
  isplitl [HO]; · iexact HO
  isplitl [Hs0 Hs1 Hs2 Hs3]
  · isplitl [Hs0 Hs1]
    · isplitl [Hs0]; · iapply (slot_any c 0 _) $$ Hs0
      iapply (slot_any c 1 _) $$ Hs1
    · isplitl [Hs2]; · iapply (slot_any c 2 _) $$ Hs2
      iapply (slot_any c 3 _) $$ Hs3
  isplitl [Hz0 Hz1 Hz2 Hz3]
  · isplitl [Hz0 Hz1]
    · isplitl [Hz0]; · iexact Hz0
      iexact Hz1
    · isplitl [Hz2]; · iexact Hz2
      iexact Hz3
  isplitl [Hl0 Hl1 Hl2 Hl3]
  · isplitl [Hl0 Hl1]
    · isplitl [Hl0]; · iexact Hl0
      iexact Hl1
    · isplitl [Hl2]; · iexact Hl2
      iexact Hl3
  isplitl [Hp0 Hp1 Hp2 Hp3]
  · isplitl [Hp0 Hp1]
    · isplitl [Hp0]; · iexact Hp0
      iexact Hp1
    · isplitl [Hp2]; · iexact Hp2
      iexact Hp3
  isplitl [Hp4 Hp5 Hp6 Hp7]
  · isplitl [Hp4 Hp5]
    · isplitl [Hp4]; · iexact Hp4
      iexact Hp5
    · isplitl [Hp6]; · iexact Hp6
      iexact Hp7
  isplitl [Hp8 Hp9 Hp10 Hp11]
  · isplitl [Hp8 Hp9]
    · isplitl [Hp8]; · iexact Hp8
      iexact Hp9
    · isplitl [Hp10]; · iexact Hp10
      iexact Hp11
  isplitl [Hp12 Hp13]
  · isplitl [Hp12]; · iexact Hp12
    iexact Hp13
  · isplitl [Hp14]; · iexact Hp14
    iexact Hp15

end Cert.Proof.KernelIdeal
-- ==== Proof.Ideal.Body.lean ====
/- The whole body. -/
module

public import proofs.«01_k».proof.Proof.Ideal.Second

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cl → ℕ) {α : Type}

theorem wp_dev (c : Dev nD) (k : Dev nD → PR F α) (Q : α → sProp 𝕄) : (WP c (.op .deviceId k) Q : sProp 𝕄) = WP c (k c) Q :=
  wp_deviceId 𝒱₀ (c : Thread nD τ) none Set.univ

theorem wp_done (c : Dev nD) (a : α) (Q : α → sProp 𝕄) : Q a ⊢ WP c (Pure.pure a) Q := by
  show _ ⊢ wp frame (wpE (defs₀ (F := F)) 𝒱₀ (c : Thread nD τ) none) Set.univ (Pure.pure a) Q
  rw [Prog.pure_eq_ret, wp_ret]
  iintro H
  imodintro
  iexact H

/-- What a device starts the body with, -/
def start (c : Dev nD) : sProp 𝕄 :=
  iprop(records m K ∗ (∃ W, owes (c : Thread nD τ) (O₀ c) W) ∗ barToks c ∗ lands c ∗ argX m c ∗ anyOwn c ∗ (ring8 (pend c) ∗ max3 (pend c)) ∗ (ring8 (coming c) ∗ max3 (coming c))
    ∗ owns (c : Thread nD τ) wM fullShare (wX m c) ∗ (∃ X, owns (c : Thread nD τ) boxM fullShare X) ∗ anySlot4 c ∗ stZ4 c ∗ ldZ4 c
    ∗ any4 c ![0, 1, 2, 3] ∗ any4 c ![4, 5, 6, 7] ∗ any4 c ![8, 9, 10, 11] ∗ any4 c ![12, 13, 14, 15])

/-- and ends it with. -/
def finish (c : Dev nD) : sProp 𝕄 :=
  iprop((∃ W, owes (c : Thread nD τ) 0 W) ∗ semVal (cell c .bar) 0
    ∗ (ring8 (fun k => semVal (cell c (.snd k)) 0) ∗ max3 (fun k => semVal (cell c (.snd k)) 0)) ∗ (ring8 (fun k => semVal (cell c (.rcv k)) 0) ∗ max3 (fun k => semVal (cell c (.rcv k)) 0))
    ∗ argX m c ∗ landed m c ∗ (ring8 (fun k => owns (c : Thread nD τ) (lnk k).src (qS k) (carried m c k)) ∗ max3 (fun k => owns (c : Thread nD τ) (lnk k).src (qS k) (carried m c k)))
    ∗ owns (c : Thread nD τ) wM fullShare (wX m c) ∗ boxes m c ∗ anySlot4 c ∗ stZ4 c ∗ ldZ4 c
    ∗ done4 m c (scaleOf (glob m c)) (invOf (glob m c)) ![0, 1, 2, 3] ∗ done4 m c (scaleOf (glob m c)) (invOf (glob m c)) ![4, 5, 6, 7]
    ∗ done4 m c (scaleOf (glob m c)) (invOf (glob m c)) ![8, 9, 10, 11] ∗ done4 m c (scaleOf (glob m c)) (invOf (glob m c)) ![12, 13, 14, 15])

set_option maxHeartbeats 1000000 in
/-- The body. -/
theorem wp_body (c : Dev nD) (Q : PUnit → sProp 𝕄) :
    start m K c ⊢ iprop((finish m c -∗ Q ⟨⟩) -∗ WP c body Q) := by
  unfold start finish
  rw [← bind_pure (body (F := F))]
  unfold body
  simp only [bind_assoc]
  rw [lift_bind]
  iintro ⟨#HR, ⟨%W, HO⟩, Hb, Hl, Hx, Ho, ⟨Ht, Ht'⟩, ⟨Hc, Hc'⟩, HW, Hbx, Hs, Hz, Hlz, Hp0, Hp1, Hp2, Hp3⟩ Hk
  rw [wp_dev]
  iapply (wp_gather m K c W) $$ [HO Hb Hl Hx Ho Ht Hc HW Hs Hz Hp0 Hp1 Hp2]
  · isplitr; · iexact HR
    isplitl [HO]; · iexact HO
    isplitl [Hb]; · iexact Hb
    isplitl [Hl]; · iexact Hl
    isplitl [Hx]; · iexact Hx
    isplitl [Ho]; · iexact Ho
    isplitl [Ht]; · iexact Ht
    isplitl [Hc]; · iexact Hc
    isplitl [HW]; · iexact HW
    isplitl [Hs]; · iexact Hs
    isplitl [Hz]; · iexact Hz
    isplitl [Hp0]; · iexact Hp0
    isplitl [Hp1] <;> iassumption
  iintro ⟨HO, Hv, Hx, Hland, Hd, Hw, Hm, HW, Hs, Hz, Hp0, Hp1, Hp2⟩
  iapply (wp_exchange m K c) $$ [HO Hd Hbx Ht' Hm Hc']
  · isplitr; · iexact HR
    isplitl [HO]; · iexact HO
    isplitl [Hd]; · iexact Hd
    isplitl [Hbx]; · iexact Hbx
    isplitl [Ht']; · iexact Ht'
    isplitl [Hm] <;> iassumption
  iintro ⟨HO, Hvs, Hsrc, ⟨Hd0, Hd1, Hd2⟩, Hvr, Hbxs⟩
  iapply (wp_rescale m K c (scaleOf (glob m c)) (invOf (glob m c))) $$ [HO Hs Hz Hlz Hp0 Hp1 Hp2 Hp3]
  · isplitr; · iexact HR
    isplitl [HO]; · iexact HO
    isplitl [Hs]; · iexact Hs
    isplitl [Hz]; · iexact Hz
    isplitl [Hlz]; · iexact Hlz
    isplitl [Hp3]; · iexact Hp3
    isplitl [Hp0]; · iexact Hp0
    isplitl [Hp1] <;> iassumption
  iintro ⟨HO, Hs, Hz, Hlz, Hp0, Hp1, Hp2, Hp3⟩
  iapply (wp_sent m K c (.a 0) [] (by decide)) $$ [HO Hd0]
  · isplitr; · iexact HR
    isplitl [HO] <;> iassumption
  iintro ⟨HO, Hvd0, Hsd0⟩
  iapply (wp_sent m K c (.a 1) [] (by decide)) $$ [HO Hd1]
  · isplitr; · iexact HR
    isplitl [HO] <;> iassumption
  iintro ⟨HO, Hvd1, Hsd1⟩
  iapply (wp_sent m K c (.a 2) [] (by decide)) $$ [HO Hd2]
  · isplitr; · iexact HR
    isplitl [HO] <;> iassumption
  iintro ⟨HO, Hvd2, Hsd2⟩
  iapply (wp_done c)
  iapply Hk
  isplitl [HO]
  · unfold owe
    iexact HO
  isplitl [Hv]; · iexact Hv
  isplitl [Hvs Hvd0 Hvd1 Hvd2]
  · isplitl [Hvs]; · iexact Hvs
    isplitl [Hvd0]; · iexact Hvd0
    isplitl [Hvd1]; · iexact Hvd1
    iexact Hvd2
  isplitl [Hw Hvr]
  · isplitl [Hw]; · iexact Hw
    iexact Hvr
  isplitl [Hx]; · iexact Hx
  isplitl [Hland]; · iexact Hland
  isplitl [Hsrc Hsd0 Hsd1 Hsd2]
  · isplitl [Hsrc]; · iexact Hsrc
    isplitl [Hsd0]; · iexact Hsd0
    isplitl [Hsd1]; · iexact Hsd1
    iexact Hsd2
  isplitl [HW]; · iexact HW
  isplitl [Hbxs]; · iexact Hbxs
  isplitl [Hs]; · iexact Hs
  isplitl [Hz]; · iexact Hz
  isplitl [Hlz]; · iexact Hlz
  isplitl [Hp0]; · iexact Hp0
  isplitl [Hp1]; · iexact Hp1
  isplitl [Hp2] <;> iassumption

end Cert.Proof.KernelIdeal
-- ==== Proof.Ideal.Buffers.lean ====
/- The launch's buffers cut into the places the body uses, and put back together after it. -/
module

public import proofs.«01_k».proof.Proof.Ideal.Body

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sep3 (f : Fin 3 → sProp 𝕄) : (bigSep Finset.univ f : sProp 𝕄) = iprop(f 0 ∗ f 1 ∗ f 2) := by
  rw [bigSep_univ_eq_bigSepL [0, 1, 2] (by decide) (by decide)]; rfl
theorem sep4 (f : Fin 4 → sProp 𝕄) : (bigSep Finset.univ f : sProp 𝕄) = iprop(f 0 ∗ f 1 ∗ f 2 ∗ f 3) := by
  rw [bigSep_univ_eq_bigSepL [0, 1, 2, 3] (by decide) (by decide)]; rfl
theorem sep5 (f : Fin 5 → sProp 𝕄) : (bigSep Finset.univ f : sProp 𝕄) = iprop(f 0 ∗ f 1 ∗ f 2 ∗ f 3 ∗ f 4) := by
  rw [bigSep_univ_eq_bigSepL [0, 1, 2, 3, 4] (by decide) (by decide)]; rfl
theorem sep16 (f : Fin 16 → sProp 𝕄) : (bigSep Finset.univ f : sProp 𝕄)
    = iprop(f 0 ∗ f 1 ∗ f 2 ∗ f 3 ∗ f 4 ∗ f 5 ∗ f 6 ∗ f 7 ∗ f 8 ∗ f 9 ∗ f 10 ∗ f 11 ∗ f 12 ∗ f 13 ∗ f 14 ∗ f 15) := by
  rw [bigSep_univ_eq_bigSepL [0, 1, 2, 3, 4, 5, 6, 7, 8, 9, 10, 11, 12, 13, 14, 15] (by decide) (by decide)]; rfl

/-! ## Whole buffers -/

theorem owns_pts (c : Dev nD) (b : Ref sig .tc) (q : PosShare TreeShare) (f : b.ty.Contents (Elt F)) :
    (owns (c : Thread nD τ) (Memref.whole b) q f : sProp 𝕄) = (((c : Thread nD τ).loc b) ↦{q} f) := by
  have h := owns_read (Val := Elt F) (Ix := Unit) (Name := ℕ) (U := UU) (Lvl := ℕ) (c : Thread nD τ) (Memref.whole b) q f
  simp only [Memref.view_whole, View.read_whole, View.set_whole] at h
  exact h

theorem any_owns (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f
  rw [owns_pts]
  iexact H
theorem owns_any (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_pts]
  iintro H
  iexists X
  iexact H

/-- A squeezed part at any contents is the part at any contents. -/
theorem squeeze_any {cs : Space} {s : Shape} {e : EltTy} (c : Dev nD) (B : Memref sig .tc cs s e) (s' : Shape) (h : s.Squeezes s') (q : PosShare TreeShare)
    (X : s.Idx → Elt F e) : (owns (c : Thread nD τ) B q X : sProp 𝕄) ⊢ iprop(∃ T, owns (c : Thread nD τ) (B.squeeze s' h) q T) := by
  iintro H
  ihave H := (owns_elim (c : Thread nD τ) B q X) $$ H
  icases H with ⟨%f, %hf, H⟩
  iexists ((B.squeeze s' h).view.read (Elt F) f)
  rw [owns_read (Val := Elt F) (c : Thread nD τ) (B.squeeze s' h) q f, show (B.squeeze s' h).view.set = B.view.set from View.set_reshape _ _]
  iexact H

/-! ## The landing buffers -/

/-- A landing buffer as its links use it, and as the body leaves it. -/
abbrev comO : Fin 4 → Fin 3 → ℕ := ![![0, 0, 0], ![1, 0, 0], ![2, 0, 0], ![2, 256, 0]]
abbrev comS : Fin 4 → Fin 3 → ℕ := ![S1x512x4096.size, S1x512x4096.size, S1x256x4096.size, S1x256x4096.size]
abbrev comO' : Fin 5 → Fin 3 → ℕ := ![![0, 0, 0], ![1, 0, 0], ![1, 256, 0], ![2, 0, 0], ![2, 256, 0]]
abbrev comS' : Fin 5 → Fin 3 → ℕ := ![S1x512x4096.size, S1x256x4096.size, S1x256x4096.size, S1x256x4096.size, S1x256x4096.size]
theorem comI : ∀ t a, comO t a + comS t a ≤ S3x512x4096.size a := by decide
theorem comI' : ∀ t a, comO' t a + comS' t a ≤ S3x512x4096.size a := by decide
abbrev comR (t : Fin 4) : Rect S3x512x4096 := Rect.unit (s := S3x512x4096) (comO t) (comS t) (comI t)
abbrev comR' (t : Fin 5) : Rect S3x512x4096 := Rect.unit (s := S3x512x4096) (comO' t) (comS' t) (comI' t)

theorem comR_unit : ∀ t a, (comR t).stride a = 1 := fun _ _ => rfl
theorem comR'_unit : ∀ t a, (comR' t).stride a = 1 := fun _ _ => rfl
theorem comO_sep : ∀ t t', t ≠ t' → ∃ a, comO t a + comS t a ≤ comO t' a ∨ comO t' a + comS t' a ≤ comO t a := by decide
theorem comO'_sep : ∀ t t', t ≠ t' → ∃ a, comO' t a + comS' t a ≤ comO' t' a ∨ comO' t' a + comS' t' a ≤ comO' t a := by decide
theorem comR_disj : ∀ t t', t ≠ t' → Disjoint (comR t).set (comR t').set := fun t t' h =>
  (comO_sep t t' h).elim fun a ha => Rect.unit_disjoint a ha
theorem comR'_disj : ∀ t t', t ≠ t' → Disjoint (comR' t).set (comR' t').set := fun t t' h =>
  (comO'_sep t t' h).elim fun a ha => Rect.unit_disjoint a ha
theorem mem_hop (h : Fin 3) (i : S3x512x4096.Idx) (hi : (i 0).val = h.val) : i ∈ (hopR h).set := by
  have h0 : (i 0).val < 3 := (i 0).isLt
  have h1 : (i 1).val < 512 := (i 1).isLt
  have h2 : (i 2).val < 4096 := (i 2).isLt
  refine Rect.mem_set_unit.mpr fun a => ?_
  fin_cases a <;> simp <;> omega
theorem mem_half (h : Fin 3) (b : Fin 2) (i : S3x512x4096.Idx) (hi : (i 0).val = h.val) (hb : 256 * b.val ≤ (i 1).val ∧ (i 1).val < 256 * b.val + 256) :
    i ∈ (halfR h b).set := by
  have h2 : (i 2).val < 4096 := (i 2).isLt
  refine Rect.mem_set_unit.mpr fun a => ?_
  fin_cases a <;> simp <;> omega
theorem comR_cov : ∀ i, ∃ t, i ∈ (comR t).set := by
  intro i
  have h0 : (i 0).val < 3 := (i 0).isLt
  have h1 : (i 1).val < 512 := (i 1).isLt
  by_cases e0 : (i 0).val = 0
  · exact ⟨0, mem_hop 0 i e0⟩
  by_cases e1 : (i 0).val = 1
  · exact ⟨1, mem_hop 1 i e1⟩
  have e2 : (i 0).val = 2 := by omega
  by_cases hb : (i 1).val < 256
  · exact ⟨2, mem_half 2 0 i e2 ⟨Nat.zero_le _, by simpa using hb⟩⟩
  · exact ⟨3, mem_half 2 1 i e2 ⟨by simp; omega, by simp; omega⟩⟩
theorem comR'_cov : ∀ i, ∃ t, i ∈ (comR' t).set := by
  intro i
  have h0 : (i 0).val < 3 := (i 0).isLt
  have h1 : (i 1).val < 512 := (i 1).isLt
  by_cases e0 : (i 0).val = 0
  · exact ⟨0, mem_hop 0 i e0⟩
  by_cases hb : (i 1).val < 256
  · by_cases e1 : (i 0).val = 1
    · exact ⟨1, mem_half 1 0 i e1 ⟨Nat.zero_le _, by simpa using hb⟩⟩
    · exact ⟨3, mem_half 2 0 i (by simp; omega) ⟨Nat.zero_le _, by simpa using hb⟩⟩
  · by_cases e1 : (i 0).val = 1
    · exact ⟨2, mem_half 1 1 i e1 ⟨by simp; omega, by simp; omega⟩⟩
    · exact ⟨4, mem_half 2 1 i (by simp; omega) ⟨by simp; omega, by simp; omega⟩⟩

theorem com_cut (c : Dev nD) (B : Memref sig .tc .vmem S3x512x4096 .bf16) :
    (iprop(∃ X, owns (c : Thread nD τ) B fullShare X) : sProp 𝕄)
      ⊢ iprop((∃ X, owns (c : Thread nD τ) (hopM B 0) fullShare X) ∗ (∃ X, owns (c : Thread nD τ) (hopM B 1) fullShare X)
          ∗ (∃ X, owns (c : Thread nD τ) (halfM B 2 0) fullShare X) ∗ (∃ X, owns (c : Thread nD τ) (halfM B 2 1) fullShare X)) := by
  iintro ⟨%X, H⟩
  ihave H := (cut c B comR comR_unit comR_disj comR_cov fullShare X) $$ H
  ihave H := (Entails.of_eq (sep4 _)) $$ H
  icases H with ⟨H0, H1, H2, H3⟩
  isplitl [H0]; · iapply (show _ ⊢ _ from squeeze_any c (B.slice (hopR 0) (fun _ => rfl)) _ squeezes_S1x512x4096_S512x4096 fullShare (fun j => X ((hopR 0).emb j))); iexact H0
  isplitl [H1]; · iapply (show _ ⊢ _ from squeeze_any c (B.slice (hopR 1) (fun _ => rfl)) _ squeezes_S1x512x4096_S512x4096 fullShare (fun j => X ((hopR 1).emb j))); iexact H1
  isplitl [H2]; · iapply (show _ ⊢ _ from squeeze_any c (B.slice (halfR 2 0) (fun _ => rfl)) _ squeezes_S1x256x4096_S256x4096 fullShare (fun j => X ((halfR 2 0).emb j))); iexact H2
  iapply (show _ ⊢ _ from squeeze_any c (B.slice (halfR 2 1) (fun _ => rfl)) _ squeezes_S1x256x4096_S256x4096 fullShare (fun j => X ((halfR 2 1).emb j))); iexact H3

/-- Given what is left of each part after the body, the whole landing buffer. -/
theorem com_join (c : Dev nD) (B : Memref sig .tc .vmem S3x512x4096 .bf16) (X0 X1 : FVec F S512x4096 .bf16) (Y0 Y1 : FVec F S256x4096 .bf16) :
    iprop((owns (c : Thread nD τ) (hopM B 0) fullShare.left X0 ∗ owns (c : Thread nD τ) (hopM B 0) fullShare.right X0)
        ∗ owns (c : Thread nD τ) (hopM B 1) fullShare.left X1
        ∗ (owns (c : Thread nD τ) (halfM B 1 0) fullShare.right (half 0 X1) ∗ owns (c : Thread nD τ) (halfM B 1 1) fullShare.right (half 1 X1))
        ∗ owns (c : Thread nD τ) (halfM B 2 0) fullShare Y0 ∗ owns (c : Thread nD τ) (halfM B 2 1) fullShare Y1)
      ⊢ (iprop(∃ X, owns (c : Thread nD τ) B fullShare X) : sProp 𝕄) := by
  iintro ⟨⟨Ha, Hb⟩, Hc, ⟨Hd, He⟩, Hf, Hg⟩
  ihave H0 := (owns_unshare (Val := Elt F) (c : Thread nD τ) (hopM B 0) fullShare X0) $$ [Ha Hb]
  · isplitl [Ha] <;> iassumption
  ihave Hc := (hop_halves c B 1 fullShare.left X1) $$ Hc
  icases Hc with ⟨Hc, Hc'⟩
  ihave H1 := (owns_unshare (Val := Elt F) (c : Thread nD τ) (halfM B 1 0) fullShare (half 0 X1)) $$ [Hc Hd]
  · isplitl [Hc] <;> iassumption
  ihave H2 := (owns_unshare (Val := Elt F) (c : Thread nD τ) (halfM B 1 1) fullShare (half 1 X1)) $$ [Hc' He]
  · isplitl [Hc'] <;> iassumption
  ihave H0 := (Entails.of_eq (owns_squeeze (Val := Elt F) (c : Thread nD τ) (B.slice (hopR 0) (fun _ => rfl)) S512x4096 squeezes_S1x512x4096_S512x4096 fullShare X0)) $$ H0
  ihave H1 := (Entails.of_eq (owns_squeeze (Val := Elt F) (c : Thread nD τ) (B.slice (halfR 1 0) (fun _ => rfl)) S256x4096 squeezes_S1x256x4096_S256x4096 fullShare (half 0 X1))) $$ H1
  ihave H2 := (Entails.of_eq (owns_squeeze (Val := Elt F) (c : Thread nD τ) (B.slice (halfR 1 1) (fun _ => rfl)) S256x4096 squeezes_S1x256x4096_S256x4096 fullShare (half 1 X1))) $$ H2
  ihave H3 := (Entails.of_eq (owns_squeeze (Val := Elt F) (c : Thread nD τ) (B.slice (halfR 2 0) (fun _ => rfl)) S256x4096 squeezes_S1x256x4096_S256x4096 fullShare Y0)) $$ Hf
  ihave H4 := (Entails.of_eq (owns_squeeze (Val := Elt F) (c : Thread nD τ) (B.slice (halfR 2 1) (fun _ => rfl)) S256x4096 squeezes_S1x256x4096_S256x4096 fullShare Y1)) $$ Hg
  ihave H := (join c B comR' comR'_unit comR'_disj comR'_cov fullShare (fun
    | 0 => shapeCast S1x512x4096 X0 squeezes_S1x512x4096_S512x4096.numel_eq.symm
    | 1 => shapeCast S1x256x4096 (half 0 X1) squeezes_S1x256x4096_S256x4096.numel_eq.symm
    | 2 => shapeCast S1x256x4096 (half 1 X1) squeezes_S1x256x4096_S256x4096.numel_eq.symm
    | 3 => shapeCast S1x256x4096 Y0 squeezes_S1x256x4096_S256x4096.numel_eq.symm
    | 4 => shapeCast S1x256x4096 Y1 squeezes_S1x256x4096_S256x4096.numel_eq.symm)) $$ [H0 H1 H2 H3 H4]
  · rw [sep5]
    isplitl [H0]; · iexact H0
    isplitl [H1]; · iexact H1
    isplitl [H2]; · iexact H2
    isplitl [H3]; · iexact H3
    iexact H4
  icases H with ⟨%X, -, H⟩
  iexists X
  iexact H

/-! ## The staging slots, the maxima's places -/

theorem slotR_disj : ∀ t t', t ≠ t' → Disjoint (slotR t).set (slotR t').set := by
  intro t t' h
  fin_cases t <;> fin_cases t' <;> first | exact absurd rfl h | exact Rect.unit_disjoint 0 (by decide)
theorem slotR_cov : ∀ i, ∃ t, i ∈ (slotR t).set := by
  intro i
  have h0 : (i 0).val < 4 := (i 0).isLt
  have h1 : (i 1).val < 256 := (i 1).isLt
  have h2 : (i 2).val < 2048 := (i 2).isLt
  refine ⟨⟨(i 0).val, h0⟩, Rect.mem_set_unit.mpr fun a => ?_⟩
  fin_cases a <;> simp <;> omega
theorem boxR_disj : ∀ t t', t ≠ t' → Disjoint (boxR t).set (boxR t').set := by
  intro t t' h
  fin_cases t <;> fin_cases t' <;> first | exact absurd rfl h | exact Rect.unit_disjoint 0 (by decide)
theorem boxR_cov : ∀ i, ∃ t, i ∈ (boxR t).set := by
  intro i
  have h0 : (i 0).val < 3 := (i 0).isLt
  have h1 : (i 1).val < 8 := (i 1).isLt
  have h2 : (i 2).val < 128 := (i 2).isLt
  refine ⟨⟨(i 0).val, h0⟩, Rect.mem_set_unit.mpr fun a => ?_⟩
  fin_cases a <;> simp <;> omega

theorem slot_cut (c : Dev nD) : (iprop(∃ X, owns (c : Thread nD τ) stgM fullShare X) : sProp 𝕄) ⊢ anySlot4 c := by
  iintro ⟨%X, H⟩
  ihave H := (cut c stgM slotR (fun _ _ => rfl) slotR_disj slotR_cov fullShare X) $$ H
  ihave H := (Entails.of_eq (sep4 _)) $$ H
  icases H with ⟨H0, H1, H2, H3⟩
  isplitl [H0 H1]
  · isplitl [H0]
    · iapply (show _ ⊢ anySlot c 0 from squeeze_any c (stgM.slice (slotR 0) (fun _ => rfl)) _ _ fullShare _) $$ H0
    · iapply (show _ ⊢ anySlot c 1 from squeeze_any c (stgM.slice (slotR 1) (fun _ => rfl)) _ _ fullShare _) $$ H1
  · isplitl [H2]
    · iapply (show _ ⊢ anySlot c 2 from squeeze_any c (stgM.slice (slotR 2) (fun _ => rfl)) _ _ fullShare _) $$ H2
    · iapply (show _ ⊢ anySlot c 3 from squeeze_any c (stgM.slice (slotR 3) (fun _ => rfl)) _ _ fullShare _) $$ H3

theorem anySlot_part (c : Dev nD) (j : Fin 4) : (anySlot (F := F) c j) ⊢ iprop(∃ Y, owns (c : Thread nD τ) (stgM.slice (slotR j) (fun _ => rfl)) fullShare Y) := by
  unfold anySlot slot
  iintro ⟨%X, H⟩
  ihave H := (Entails.of_eq (owns_squeeze (Val := Elt F) (c : Thread nD τ) (stgM.slice (slotR j) (fun _ => rfl)) S256x2048 squeezes_S1x256x2048_S256x2048 fullShare X)) $$ H
  iexists _
  iexact H

theorem slot_join (c : Dev nD) : anySlot4 (F := F) c ⊢ (iprop(∃ X, owns (c : Thread nD τ) stgM fullShare X) : sProp 𝕄) := by
  iintro ⟨⟨H0, H1⟩, H2, H3⟩
  ihave H0 := (anySlot_part c 0) $$ H0
  icases H0 with ⟨%Y0, H0⟩
  ihave H1 := (anySlot_part c 1) $$ H1
  icases H1 with ⟨%Y1, H1⟩
  ihave H2 := (anySlot_part c 2) $$ H2
  icases H2 with ⟨%Y2, H2⟩
  ihave H3 := (anySlot_part c 3) $$ H3
  icases H3 with ⟨%Y3, H3⟩
  ihave H := (join c stgM slotR (fun _ _ => rfl) slotR_disj slotR_cov fullShare (fun | 0 => Y0 | 1 => Y1 | 2 => Y2 | 3 => Y3)) $$ [H0 H1 H2 H3]
  · rw [sep4]
    isplitl [H0]; · iexact H0
    isplitl [H1]; · iexact H1
    isplitl [H2]; · iexact H2
    iexact H3
  icases H with ⟨%X, -, H⟩
  iexists X
  iexact H

theorem bxs_cut (c : Dev nD) : (iprop(∃ X, owns (c : Thread nD τ) bxsM fullShare X) : sProp 𝕄)
    ⊢ iprop((∃ X, owns (c : Thread nD τ) (bxM 0) fullShare X) ∗ (∃ X, owns (c : Thread nD τ) (bxM 1) fullShare X) ∗ ∃ X, owns (c : Thread nD τ) (bxM 2) fullShare X) := by
  iintro ⟨%X, H⟩
  ihave H := (cut c bxsM boxR (fun _ _ => rfl) boxR_disj boxR_cov fullShare X) $$ H
  ihave H := (Entails.of_eq (sep3 _)) $$ H
  icases H with ⟨H0, H1, H2⟩
  isplitl [H0]; · iapply (squeeze_any c (bxsM.slice (boxR 0) (fun _ => rfl)) _ _ fullShare _) $$ H0
  isplitl [H1]; · iapply (squeeze_any c (bxsM.slice (boxR 1) (fun _ => rfl)) _ _ fullShare _) $$ H1
  iapply (squeeze_any c (bxsM.slice (boxR 2) (fun _ => rfl)) _ _ fullShare _) $$ H2

theorem bxs_join (c : Dev nD) : boxes m c ⊢ (iprop(∃ X, owns (c : Thread nD τ) bxsM fullShare X) : sProp 𝕄) := by
  iintro ⟨H0, H1, H2⟩
  ihave H0 := (Entails.of_eq (owns_squeeze (Val := Elt F) (c : Thread nD τ) (bxsM.slice (boxR 0) (fun _ => rfl)) S8x128 squeezes_S1x8x128_S8x128 fullShare _)) $$ H0
  ihave H1 := (Entails.of_eq (owns_squeeze (Val := Elt F) (c : Thread nD τ) (bxsM.slice (boxR 1) (fun _ => rfl)) S8x128 squeezes_S1x8x128_S8x128 fullShare _)) $$ H1
  ihave H2 := (Entails.of_eq (owns_squeeze (Val := Elt F) (c : Thread nD τ) (bxsM.slice (boxR 2) (fun _ => rfl)) S8x128 squeezes_S1x8x128_S8x128 fullShare _)) $$ H2
  ihave H := (join c bxsM boxR (fun _ _ => rfl) boxR_disj boxR_cov fullShare (fun
    | 0 => shapeCast S1x8x128 (box (own m (prv c))) squeezes_S1x8x128_S8x128.numel_eq.symm
    | 1 => shapeCast S1x8x128 (box (own m (opp c))) squeezes_S1x8x128_S8x128.numel_eq.symm
    | 2 => shapeCast S1x8x128 (box (own m (nxt c))) squeezes_S1x8x128_S8x128.numel_eq.symm)) $$ [H0 H1 H2]
  · rw [sep3]
    isplitl [H0]; · iexact H0
    isplitl [H1]; · iexact H1
    iexact H2
  icases H with ⟨%X, -, H⟩
  iexists X
  iexact H

/-! ## The argument -/

abbrev argO : Fin 2 → Fin 2 → ℕ := ![![0, 0], ![512, 0]]
theorem argI : ∀ t a, argO t a + S512x4096.size a ≤ S1024x4096.size a := by decide
abbrev argR (t : Fin 2) : Rect S1024x4096 := Rect.unit (s := S1024x4096) (argO t) S512x4096.size (argI t)
theorem argR_unit : ∀ t a, (argR t).stride a = 1 := fun _ _ => rfl
theorem argO_sep : ∀ t t', t ≠ t' → argO t 0 + 512 ≤ argO t' 0 ∨ argO t' 0 + 512 ≤ argO t 0 := by decide
theorem argR_disj : ∀ t t', t ≠ t' → Disjoint (argR t).set (argR t').set := fun t t' h => Rect.unit_disjoint 0 (argO_sep t t' h)
theorem argR_cov : ∀ i, ∃ t, i ∈ (argR t).set := by
  intro i
  have h0 : (i 0).val < 1024 := (i 0).isLt
  have h1 : (i 1).val < 4096 := (i 1).isLt
  by_cases hb : (i 0).val < 512
  · refine ⟨0, Rect.mem_set_unit.mpr fun a => ?_⟩
    fin_cases a <;> simp [argO] <;> omega
  · refine ⟨1, Rect.mem_set_unit.mpr fun a => ?_⟩
    fin_cases a <;> simp [argO] <;> omega

theorem topX_at (c : Dev nD) (j : S512x4096.Idx) : topX m c j = m ((c : Thread nD τ).loc main_arg0) ((argR 0).emb j) := rfl
theorem botX_at (c : Dev nD) (j : S512x4096.Idx) : botX m c j = m ((c : Thread nD τ).loc main_arg0) ((argR 1).emb j) := rfl

theorem arg_cut (c : Dev nD) : (((c : Thread nD τ).loc main_arg0) ↦{fullShare} (m ((c : Thread nD τ).loc main_arg0)) : sProp 𝕄)
    ⊢ iprop(owns (c : Thread nD τ) xHi fullShare (topX m c) ∗ owns (c : Thread nD τ) xLo fullShare (botX m c)) := by
  rw [← owns_pts]
  iintro H
  ihave H := (cut c xM argR argR_unit argR_disj argR_cov fullShare (m ((c : Thread nD τ).loc main_arg0))) $$ H
  ihave H := (Entails.of_eq (sep2 _)) $$ H
  icases H with ⟨H0, H1⟩
  isplitl [H0]; · iexact H0
  iexact H1

theorem arg_join (c : Dev nD) : iprop(owns (c : Thread nD τ) xHi fullShare (topX m c) ∗ owns (c : Thread nD τ) xLo fullShare (botX m c))
    ⊢ (((c : Thread nD τ).loc main_arg0) ↦{fullShare} (m ((c : Thread nD τ).loc main_arg0)) : sProp 𝕄) := by
  rw [← owns_pts]
  iintro ⟨H0, H1⟩
  ihave H := (join c xM argR argR_unit argR_disj argR_cov fullShare (fun | 0 => topX m c | 1 => botX m c)) $$ [H0 H1]
  · rw [sep2]
    isplitl [H0]; · iexact H0
    iexact H1
  icases H with ⟨%X, %hX, H⟩
  have e : X = m ((c : Thread nD τ).loc main_arg0) := by
    funext i
    obtain ⟨t, ht⟩ := argR_cov i
    rw [← Rect.map_emb_univ, Finset.mem_map] at ht
    obtain ⟨j, -, rfl⟩ := ht
    rw [hX t j]
    fin_cases t <;> rfl
  subst e
  iexact H

/-! ## The output -/

abbrev outR (c : Dev nD) (i : Fin 16) : Rect S4096x2048 := Rect.unit (s := S4096x2048) (outOff c i) S256x2048.size (outInb c i)

theorem outOff_sep : ∀ (c : Dev nD) (i i' : Fin 16), i ≠ i' → outOff c i 0 + 256 ≤ outOff c i' 0 ∨ outOff c i' 0 + 256 ≤ outOff c i 0 := by decide +kernel
theorem outOff_all : ∀ (c : Dev nD) (b : Fin 16), ∃ i : Fin 16, outOff c i 0 = 256 * b.val ∧ outOff c i 1 = 0 := by decide +kernel

theorem outR_disj (c : Dev nD) : ∀ t t', t ≠ t' → Disjoint (outR c t).set (outR c t').set :=
  fun t t' h => Rect.unit_disjoint 0 (outOff_sep c t t' h)
theorem outR_cov (c : Dev nD) : ∀ i, ∃ t, i ∈ (outR c t).set := by
  intro i
  have h0 : (i 0).val < 4096 := (i 0).isLt
  have h1 : (i 1).val < 2048 := (i 1).isLt
  obtain ⟨t, ht, ht'⟩ := outOff_all c ⟨(i 0).val / 256, by omega⟩
  refine ⟨t, Rect.mem_set_unit.mpr fun a => ?_⟩
  fin_cases a
  · simp only [Fin.zero_eta, ht]
    show 256 * ((i 0).val / 256) ≤ (i 0).val ∧ (i 0).val < 256 * ((i 0).val / 256) + 256
    omega
  · show outOff c t 1 ≤ (i 1).val ∧ (i 1).val < outOff c t 1 + 2048
    rw [ht']; omega

theorem out_cut (c : Dev nD) (f : Buf (Elt F) ((c : Thread nD τ).loc main_v1)) : (((c : Thread nD τ).loc main_v1) ↦{fullShare} f : sProp 𝕄)
    ⊢ iprop(any4 c ![0, 1, 2, 3] ∗ any4 c ![4, 5, 6, 7] ∗ any4 c ![8, 9, 10, 11] ∗ any4 c ![12, 13, 14, 15]) := by
  rw [← owns_pts]
  have e : ∀ i : Fin 16, (owns (c : Thread nD τ) (oM.slice (outR c i) (fun _ => rfl)) fullShare (fun j => f ((outR c i).emb j)) : sProp 𝕄) ⊢ anyPc c i := fun i => by
    unfold anyPc pc
    iintro H
    iexists _
    iexact H
  refine ((cut c oM (outR c) (fun _ _ => rfl) (outR_disj c) (outR_cov c) fullShare f).trans (bigSep_mono fun i _ => e i)).trans ?_
  rw [sep16]
  iintro ⟨H0, H1, H2, H3, H4, H5, H6, H7, H8, H9, Ha, Hb, Hc, Hd, He, Hf⟩
  isplitl [H0 H1 H2 H3]
  · isplitl [H0 H1]
    · isplitl [H0]; · iexact H0
      iexact H1
    · isplitl [H2]; · iexact H2
      iexact H3
  isplitl [H4 H5 H6 H7]
  · isplitl [H4 H5]
    · isplitl [H4]; · iexact H4
      iexact H5
    · isplitl [H6]; · iexact H6
      iexact H7
  isplitl [H8 H9 Ha Hb]
  · isplitl [H8 H9]
    · isplitl [H8]; · iexact H8
      iexact H9
    · isplitl [Ha]; · iexact Ha
      iexact Hb
  isplitl [Hc Hd]
  · isplitl [Hc]; · iexact Hc
    iexact Hd
  · isplitl [He]; · iexact He
    iexact Hf

/-- The output's contents after the run: each piece quantised with the one scale. -/
def OutIs (c : Dev nD) (X : FVec F S4096x2048 .f32) : Prop :=
  ∀ (i : Fin 16) (j : S256x2048.Idx), X ((outR c i).emb j) = quant (scaleOf (glob m c)) (invOf (glob m c)) (piece m c i) j

theorem out_join (c : Dev nD) :
    iprop(done4 m c (scaleOf (glob m c)) (invOf (glob m c)) ![0, 1, 2, 3] ∗ done4 m c (scaleOf (glob m c)) (invOf (glob m c)) ![4, 5, 6, 7]
        ∗ done4 m c (scaleOf (glob m c)) (invOf (glob m c)) ![8, 9, 10, 11] ∗ done4 m c (scaleOf (glob m c)) (invOf (glob m c)) ![12, 13, 14, 15])
      ⊢ (iprop(∃ X : FVec F S4096x2048 .f32, ⌜OutIs m c X⌝ ∗ owns (c : Thread nD τ) oM fullShare X) : sProp 𝕄) := by
  have e : ∀ i : Fin 16, (pc c i (quant (scaleOf (glob m c)) (invOf (glob m c)) (piece m c i)) : sProp 𝕄)
      ⊢ owns (c : Thread nD τ) (oM.slice (outR c i) (fun _ => rfl)) fullShare (quant (scaleOf (glob m c)) (invOf (glob m c)) (piece m c i)) := fun i => .rfl
  refine BIBase.Entails.trans ?_ ((bigSep_mono fun i _ => e i).trans (join c oM (outR c) (fun _ _ => rfl) (outR_disj c) (outR_cov c) fullShare
    (fun i => quant (scaleOf (glob m c)) (invOf (glob m c)) (piece m c i))))
  rw [sep16]
  iintro ⟨⟨⟨H0, H1⟩, H2, H3⟩, ⟨⟨H4, H5⟩, H6, H7⟩, ⟨⟨H8, H9⟩, Ha, Hb⟩, ⟨⟨Hc, Hd⟩, He, Hf⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  isplitl [Hb]; · iexact Hb
  isplitl [Hc]; · iexact Hc
  isplitl [Hd]; · iexact Hd
  isplitl [He]; · iexact He
  iexact Hf

end Cert.Proof.KernelIdeal
-- ==== Proof.Ideal.Ghost.lean ====
/- The launch: the cells and duties minted, the invariants opened, the duties dealt to the devices that pay them, the credits. -/
module

public import proofs.«01_k».proof.Proof.Ideal.Buffers

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Enumerations -/

def clE : Cl ≃ Unit ⊕ (Lk ⊕ Lk) where
  toFun | .bar => .inl () | .snd k => .inr (.inl k) | .rcv k => .inr (.inr k)
  invFun | .inl _ => .bar | .inr (.inl k) => .snd k | .inr (.inr k) => .rcv k
  left_inv i := by cases i <;> rfl
  right_inv i := by rcases i with _ | _ | _ <;> rfl

theorem sep_Cl (Φ : Cl → sProp 𝕄) : (bigSep Finset.univ Φ : sProp 𝕄)
    = iprop(Φ .bar ∗ (bigSep Finset.univ fun k => Φ (.snd k)) ∗ bigSep Finset.univ fun k => Φ (.rcv k)) := by
  rw [BI.bigSep_univ_equiv clE.symm Φ, BI.bigSep_univ_sum, BI.bigSep_univ_sum, BI.bigSep_univ_of_subsingleton ()]
  rfl

theorem sep_Lk (f : Lk → sProp 𝕄) : (bigSep Finset.univ f : sProp 𝕄) = iprop(ring8 f ∗ max3 f) := by
  rw [bigSep_univ_eq_bigSepL [.r 0, .l 0, .r 1, .l 1, .r 2, .r 3, .l 2, .l 3, .a 0, .a 1, .a 2] (by decide) (by decide)]
  have h₁ : iprop(f (.r 0) ∗ f (.l 0) ∗ f (.r 1) ∗ f (.l 1) ∗ f (.r 2) ∗ f (.r 3) ∗ f (.l 2) ∗ f (.l 3) ∗ f (.a 0) ∗ f (.a 1) ∗ f (.a 2))
      ⊢ iprop(ring8 f ∗ max3 f) := by
    iintro ⟨H1, H2, H3, H4, H5, H6, H7, H8, H9, Ha, Hb⟩
    isplitl [H1 H2 H3 H4 H5 H6 H7 H8]
    · isplitl [H1 H2]; · isplitl [H1] <;> iassumption
      isplitl [H3 H4]; · isplitl [H3] <;> iassumption
      isplitl [H5]; · iassumption
      isplitl [H6]; · iassumption
      isplitl [H7] <;> iassumption
    isplitl [H9]; · iassumption
    isplitl [Ha] <;> iassumption
  have h₂ : iprop(ring8 f ∗ max3 f)
      ⊢ iprop(f (.r 0) ∗ f (.l 0) ∗ f (.r 1) ∗ f (.l 1) ∗ f (.r 2) ∗ f (.r 3) ∗ f (.l 2) ∗ f (.l 3) ∗ f (.a 0) ∗ f (.a 1) ∗ f (.a 2)) := by
    iintro ⟨⟨⟨H1, H2⟩, ⟨H3, H4⟩, H5, H6, H7, H8⟩, H9, Ha, Hb⟩
    isplitl [H1]; · iassumption
    isplitl [H2]; · iassumption
    isplitl [H3]; · iassumption
    isplitl [H4]; · iassumption
    isplitl [H5]; · iassumption
    isplitl [H6]; · iassumption
    isplitl [H7]; · iassumption
    isplitl [H8]; · iassumption
    isplitl [H9]; · iassumption
    isplitl [Ha] <;> iassumption
  exact BI.equiv_iff.mp ⟨h₁, h₂⟩

/-! ## The kernel's own semaphores -/

abbrev Os : Type := (Lk ⊕ Lk) ⊕ (Fin 2 ⊕ (Fin 4 ⊕ Fin 4))
def osem : Os → SemLoc sig
  | .inl (.inl k) => csem (.snd k) | .inl (.inr k) => csem (.rcv k)
  | .inr (.inl j) => xS j | .inr (.inr (.inl j)) => stS j | .inr (.inr (.inr j)) => ldS j

theorem ownSemFacts : Pipeline.OwnSemFacts cfg0.spec osem := by decide +kernel

/-- The local copies' semaphores at zero. -/
abbrev locs (c : Dev nD) : sProp 𝕄 :=
  iprop((semVal ((c : Thread nD τ), xS 0) 0 ∗ semVal ((c : Thread nD τ), xS 1) 0) ∗ stZ4 c ∗ ldZ4 c)

theorem four (f : Fin 4 → sProp 𝕄) : (bigSep Finset.univ f : sProp 𝕄) = iprop((f 0 ∗ f 1) ∗ (f 2 ∗ f 3)) := by
  rw [sep4]
  have h₁ : iprop(f 0 ∗ f 1 ∗ f 2 ∗ f 3) ⊢ iprop((f 0 ∗ f 1) ∗ (f 2 ∗ f 3)) := by
    iintro ⟨H0, H1, H2, H3⟩
    isplitl [H0 H1]; · isplitl [H0] <;> iassumption
    isplitl [H2] <;> iassumption
  have h₂ : iprop((f 0 ∗ f 1) ∗ (f 2 ∗ f 3)) ⊢ iprop(f 0 ∗ f 1 ∗ f 2 ∗ f 3) := by
    iintro ⟨⟨H0, H1⟩, H2, H3⟩
    isplitl [H0]; · iassumption
    isplitl [H1]; · iassumption
    isplitl [H2] <;> iassumption
  exact BI.equiv_iff.mp ⟨h₁, h₂⟩

theorem ownSems0_eq (c : Dev nD) : (Pipeline.ownSems0 (Ix := Unit) (Name := ℕ) (U := UU) (Lvl := ℕ) (Val := Elt F) (τ := τ) osem c : sProp 𝕄)
    = iprop(((bigSep Finset.univ fun k => semVal (cell c (.snd k)) 0) ∗ bigSep Finset.univ fun k => semVal (cell c (.rcv k)) 0) ∗ locs c) := by
  unfold Pipeline.ownSems0
  rw [BI.bigSep_univ_sum, BI.bigSep_univ_sum, BI.bigSep_univ_sum, BI.bigSep_univ_sum, sep2, four, four]
  rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-! ## Cells and duties minted -/

theorem cell_inj : Function.Injective fun p : Dev nD × Cl => cell p.1 p.2 := by
  rintro ⟨c, i⟩ ⟨c', i'⟩ h
  have h1 : c = c' := congrArg (fun g : GSem nD τ sig => g.1.1) h
  have h2 : csem i = csem i' := congrArg Prod.snd h
  rw [h1, csem_inj h2]

def ringCells : Finset (GSem nD τ sig) := Finset.univ.map ⟨_, cell_inj⟩

/-- The duties of a device's cells: the barrier's three, one for each end of each link. -/
abbrev Tk : Type := Fin 3 ⊕ (Lk ⊕ Lk)
def tkOf : Tk → Cl × Fin 3
  | .inl d => (.bar, d) | .inr (.inl k) => (.snd k, 0) | .inr (.inr k) => (.rcv k, 0)
theorem tkOf_inj : Function.Injective tkOf := by
  intro t t' h
  rcases t with d | k | k <;> rcases t' with d' | k' | k' <;> simp [tkOf] at h ⊢ <;> exact h

def tokOf (p : Dev nD × Tk) : GSem nD τ sig × ℕ × Fin 3 := (cell p.1 (tkOf p.2).1, 0, (tkOf p.2).2)
theorem tokOf_inj : Function.Injective tokOf := by
  rintro ⟨c, t⟩ ⟨c', t'⟩ h
  have h1 := cell_inj (a₁ := (c, (tkOf t).1)) (a₂ := (c', (tkOf t').1)) (congrArg Prod.fst h : cell c (tkOf t).1 = cell c' (tkOf t').1)
  have h2 : (tkOf t).2 = (tkOf t').2 := congrArg (fun x : GSem nD τ sig × ℕ × Fin 3 => x.2.2) h
  have h3 : tkOf t = tkOf t' := Prod.ext (congrArg Prod.snd h1 : (tkOf t).1 = (tkOf t').1) h2
  exact Prod.ext (congrArg Prod.fst h1 : c = c') (tkOf_inj h3)
def ringToks : Finset (GSem nD τ sig × ℕ × Fin 3) := Finset.univ.map ⟨tokOf, tokOf_inj⟩

def u₀ : UU :=
  (initOf (Pipeline.cells cfgs cellOf_inj) (Pipeline.launchToks cfgs cellOf_inj), (initOf ringCells ringToks, 1))

/-- The duties of device `c`'s own cells. -/
def minted (c : Dev nD) : sProp 𝕄 :=
  iprop((dutyTok ER (cell c .bar) 0 0 ∗ dutyTok ER (cell c .bar) 0 1 ∗ dutyTok ER (cell c .bar) 0 2)
    ∗ (bigSep Finset.univ fun k => dutyTok ER (cell c (.snd k)) 0 0) ∗ bigSep Finset.univ fun k => dutyTok ER (cell c (.rcv k)) 0 0)

/-- What a device starts the global step from, -/
def G (c : Dev nD) : sProp 𝕄 :=
  iprop((bigSep Finset.univ fun i : Cl => roundState ER (Rd m) (cell c i) 0)
    ∗ (bigSep Finset.univ fun i : Cl => atPos ER (cell c i) 0 ∅ 0) ∗ (bigSep Finset.univ fun i : Cl => reached ER (cell c i) 0) ∗ minted c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Cl => Φ (cell c i) := by
    unfold ringCells; rw [BI.bigSep_map, BI.bigSep_univ_prod]; rfl
  have hT : bigSep ringToks (fun x => (dutyTok ER x.1 x.2.1 x.2.2 : sProp 𝕄)) = bigSep Finset.univ fun c : Dev nD => minted c := by
    unfold ringToks; rw [BI.bigSep_map, BI.bigSep_univ_prod]
    refine bigSep_congr fun c _ => ?_
    rw [BI.bigSep_univ_sum, BI.bigSep_univ_sum, sep3]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step -/

theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun i : Cl => semVal (cell c i) 0) ∗ locs c) : sProp 𝕄) := by
  rw [ownSems0_eq, unscopedSems0_eq, sep_Cl]
  iintro ⟨⟨⟨HS, HV⟩, HL⟩, HB⟩
  isplitr [HL]
  · isplitl [HB]; · iexact HB
    isplitl [HS] <;> iassumption
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Cl => iprop(∃ κ : ℕ, cellInv ER (Rd m) κ (cell c i)))
          ∗ (bigSep Finset.univ fun i : Cl => reached ER (cell c i) 0) ∗ ((bigSep Finset.univ fun i : Cl => atPos ER (cell c i) 0 ∅ 0) ∗ locs c) ∗ minted c) := by
  unfold G
  iintro ⟨Hos, Hus, Hst, Hat, Hr, Htok⟩
  ihave Hv := (sems0 (F := F) c) $$ [Hos Hus]
  · isplitl [Hos] <;> iassumption
  icases Hv with ⟨Hv, HL⟩
  imod (show iprop((bigSep Finset.univ fun i : Cl => semVal (cell c i) 0) ∗ bigSep Finset.univ fun i : Cl => roundState ER (Rd m) (cell c i) 0)
      ⊢ (|={Set.univ}=> bigSep Finset.univ fun i => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hr]; · iexact Hr
  isplitl [Hat HL]
  · isplitl [Hat] <;> iassumption
  iexact Htok

/-- The duties device `c` pays. -/
def pay (c : Dev nD) : sProp 𝕄 :=
  iprop((dutyTok ER (cell (nxt c) .bar) 0 0 ∗ dutyTok ER (cell (opp c) .bar) 0 1 ∗ dutyTok ER (cell (prv c) .bar) 0 2)
    ∗ bigSep Finset.univ fun k => toks c k)

def nxtE : Dev nD ≃ Dev nD := ⟨nxt, prv, prv_nxt, nxt_prv⟩
def oppE : Dev nD ≃ Dev nD := ⟨opp, opp, opp_opp, opp_opp⟩
def tgtE (k : Lk) : Dev nD ≃ Dev nD := ⟨fun c => tgt c k, fun c => frm c k, fun c => frm_tgt c k, fun c => tgt_frm c k⟩

theorem rcv_around : (bigSep Finset.univ fun c : Dev nD => bigSep Finset.univ fun k : Lk => (dutyTok ER (cell c (.rcv k)) 0 0 : sProp 𝕄))
    = bigSep Finset.univ fun c : Dev nD => bigSep Finset.univ fun k : Lk => dutyTok ER (cell (tgt c k) (.rcv k)) 0 0 := by
  rw [BI.bigSep_univ_comm, BI.bigSep_univ_comm (fun (c : Dev nD) (k : Lk) => (dutyTok ER (cell (tgt c k) (.rcv k)) 0 0 : sProp 𝕄))]
  exact bigSep_congr fun k _ => BI.bigSep_univ_equiv (tgtE k) (fun c : Dev nD => (dutyTok ER (cell c (.rcv k)) 0 0 : sProp 𝕄))

theorem toks_around : (bigSep Finset.univ fun c : Dev nD => (minted c : sProp 𝕄)) ⊢ bigSep Finset.univ fun c : Dev nD => pay c := by
  unfold minted pay toks
  simp only [bigSep_sep']
  rw [BI.bigSep_univ_equiv nxtE (fun c : Dev nD => (dutyTok ER (cell c .bar) 0 0 : sProp 𝕄)),
    BI.bigSep_univ_equiv oppE (fun c : Dev nD => (dutyTok ER (cell c .bar) 0 1 : sProp 𝕄)),
    BI.bigSep_univ_equiv nxtE.symm (fun c : Dev nD => (dutyTok ER (cell c .bar) 0 2 : sProp 𝕄)), rcv_around]
  iintro ⟨⟨H1, H2, H3⟩, H4, H5⟩
  isplitl [H1 H2 H3]
  · isplitl [H1]; · iexact H1
    isplitl [H2]; · iexact H2
    iexact H3
  isplitl [H4]; · iexact H4
  iexact H5

/-- The persistent part: every cell's invariant, and that it is at its round. -/
def recs (K : Dev nD × Cl → ℕ) : sProp 𝕄 :=
  bigSep Finset.univ fun p : Dev nD × Cl => iprop(cellInv ER (Rd m) (K p) (cell p.1 p.2) ∗ reached ER (cell p.1 p.2) 0)
instance recs_persistent (K : Dev nD × Cl → ℕ) : BI.Persistent (recs m K) := by unfold recs; infer_instance

/-- The device's own part. -/
def linear (c : Dev nD) : sProp 𝕄 := iprop(((bigSep Finset.univ fun i : Cl => atPos ER (cell c i) 0 ∅ 0) ∗ locs c) ∗ pay c)

theorem linear_sep : iprop((bigSep Finset.univ fun c : Dev nD => iprop((bigSep Finset.univ fun i : Cl => atPos ER (cell c i) 0 ∅ 0) ∗ locs c)) ∗ bigSep Finset.univ fun c : Dev nD => pay c)
    ⊢ (bigSep Finset.univ fun c : Dev nD => linear c : sProp 𝕄) :=
  Entails.of_eq (bigSep_sep' Finset.univ (fun c : Dev nD => iprop((bigSep Finset.univ fun i : Cl => atPos ER (cell c i) 0 ∅ 0) ∗ locs c)) (fun c : Dev nD => (pay c : sProp 𝕄))).symm

/-- What the global step leaves a device. -/
def G' (c : Dev nD) : sProp 𝕄 := iprop(∃ K, recs m K ∗ linear c)

theorem regroup :
    (bigSep Finset.univ fun c : Dev nD => iprop((bigSep Finset.univ fun i : Cl => iprop(∃ κ : ℕ, cellInv ER (Rd m) κ (cell c i)))
          ∗ (bigSep Finset.univ fun i : Cl => reached ER (cell c i) 0) ∗ ((bigSep Finset.univ fun i : Cl => atPos ER (cell c i) 0 ∅ 0) ∗ locs c) ∗ minted c) : sProp 𝕄)
      ⊢ bigSep Finset.univ (G' m) := by
  rw [bigSep_sep', bigSep_sep', bigSep_sep', ← BI.bigSep_univ_prod (fun p : Dev nD × Cl => iprop(∃ κ : ℕ, cellInv ER (Rd m) κ (cell p.1 p.2))),
    ← BI.bigSep_univ_prod (fun p : Dev nD × Cl => (reached ER (cell p.1 p.2) 0 : sProp 𝕄))]
  iintro ⟨HI, HR, Hat, Htok⟩
  ihave HK := (BI.bigSep_exists_pi Finset.univ (fun (p : Dev nD × Cl) (κ : ℕ) => (cellInv ER (Rd m) κ (cell p.1 p.2) : sProp 𝕄))) $$ HI
  icases HK with ⟨%K, HI⟩
  ihave Htk := (toks_around (F := F)) $$ Htok
  iapply (bigSep_with_persistent (R := recs m K) (Φ := linear) (Ψ := G' m) fun c _ => by
    unfold G'
    iintro ⟨#H, H'⟩
    iexists K
    isplitr
    · iexact H
    · iexact H')
  isplitl [HI HR]
  · unfold recs
    rw [bigSep_sep']
    isplitl [HI] <;> iassumption
  · iapply (linear_sep (F := F))
    isplitl [Hat]; · iexact Hat
    iexact Htk

theorem glob_step : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_ne {g g' : GSem nD τ sig} {n : ℕ} (h : g' ≠ g) : (tallyAt g () n : CellTallies nD τ sig Unit) g' () = 0 := by
  rw [tallyAt_apply, if_neg fun h' => h h'.1]
theorem tally_self {g : GSem nD τ sig} {n : ℕ} : (tallyAt g () n : CellTallies nD τ sig Unit) g () = n := by
  rw [tallyAt_apply, if_pos ⟨rfl, rfl⟩]
theorem cell_ne {c d : Dev nD} {i j : Cl} (h : i ≠ j) : cell c i ≠ cell d j := fun e => h (congrArg Prod.snd (cell_inj (a₁ := (c, i)) (a₂ := (d, j)) e))
theorem cell_ne' {c d : Dev nD} {i : Cl} (h : c ≠ d) : cell c i ≠ cell d i := fun e => h (congrArg Prod.fst (cell_inj (a₁ := (c, i)) (a₂ := (d, i)) e))

theorem Orem_bar (d c : Dev nD) (S : List Lk) : Orem d S (cell c .bar) () = 0 := by
  induction S with
  | nil => rfl
  | cons k S ih =>
    show (Orem d S + tallyAt (cell (tgt d k) (.rcv k)) () (N k) : CellTallies nD τ sig Unit) (cell c .bar) () = 0
    rw [Pi.add_apply, Finsupp.add_apply, ih, tally_ne (cell_ne (by simp))]

theorem Orem_rcv (d c : Dev nD) (k : Lk) (S : List Lk) : Orem d S (cell c (.rcv k)) () = if d = frm c k then S.count k * N k else 0 := by
  induction S with
  | nil => simp [Orem]
  | cons k' S ih =>
    show (Orem d S + tallyAt (cell (tgt d k') (.rcv k')) () (N k') : CellTallies nD τ sig Unit) (cell c (.rcv k)) () = _
    rw [Pi.add_apply, Finsupp.add_apply, ih]
    by_cases hk : k = k'
    · subst hk
      by_cases hd : d = frm c k
      · subst hd
        rw [if_pos rfl, if_pos rfl, tgt_frm, tally_self, List.count_cons_self, Nat.add_mul, Nat.one_mul]
      · rw [if_neg hd, if_neg hd, show (tallyAt (cell (tgt d k) (.rcv k)) () (N k) : CellTallies nD τ sig Unit) (cell c (.rcv k)) () = 0 from tally_ne (cell_ne' fun h => hd (by rw [h, frm_tgt]))]
    · rw [show (tallyAt (cell (tgt d k') (.rcv k')) () (N k') : CellTallies nD τ sig Unit) (cell c (.rcv k)) () = 0 from tally_ne (cell_ne (by simpa using hk)),
        List.count_cons_of_ne (Ne.symm hk)]; rfl

theorem order_count (k : Lk) : order.count k = 1 := by revert k; decide

theorem owed_bar (d c : Dev nD) : O₀ d (cell c .bar) () = (if d = nxt c then 1 else 0) + (if d = opp c then 1 else 0) + (if d = prv c then 1 else 0) := by
  have hc : ∀ a b : Dev nD, (tallyAt (cell a .bar) () 1 : CellTallies nD τ sig Unit) (cell b .bar) () = if a = b then 1 else 0 := by
    intro a b
    by_cases h : a = b
    · subst h; rw [if_pos rfl, tally_self]
    · rw [if_neg h, tally_ne (cell_ne' (Ne.symm h))]
  unfold O₀ O₁ O₂
  rw [Pi.add_apply, Finsupp.add_apply, Pi.add_apply, Finsupp.add_apply, Pi.add_apply, Finsupp.add_apply, Orem_bar, hc, hc, hc]
  revert d c; decide

theorem owed_rcv (d c : Dev nD) (k : Lk) : O₀ d (cell c (.rcv k)) () = if d = frm c k then N k else 0 := by
  unfold O₀ O₁ O₂
  rw [Pi.add_apply, Finsupp.add_apply, Pi.add_apply, Finsupp.add_apply, Pi.add_apply, Finsupp.add_apply, Orem_rcv, order_count,
    tally_ne (cell_ne (by simp)), tally_ne (cell_ne (by simp)), tally_ne (cell_ne (by simp)), Nat.one_mul]; rfl

theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (c : Dev nD) (k : Lk) :
    tallyOn (cell c (.rcv k)) (launchCredit (Pipeline.owing O₀) 0 (cell c (.rcv k))) = (tallyAt (cell c (.rcv k)) () (N k) : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (frm c k) fun _ => N k,
    if_pos (Finset.mem_univ _)]

theorem creds (c : Dev nD) :
    (Pipeline.launchCred O₀ c : sProp 𝕄) ⊢ iprop(cred (tallyAt (cell c .bar) () 3) ∗ bigSep Finset.univ fun k => cred (tallyAt (cell c (.rcv k)) () (N k))) := by
  unfold Pipeline.launchCred
  have h₁ : (bigSep Finset.univ fun sm : SemLoc sig => cred (tallyOn ((c.tc : Thread nD τ), sm) (launchCredit (Pipeline.owing O₀) 0 ((c.tc : Thread nD τ), sm))) : sProp 𝕄)
      ⊢ bigSep (Finset.univ.map ⟨csem, csem_inj⟩) fun sm : SemLoc sig => cred (tallyOn ((c.tc : Thread nD τ), sm) (launchCredit (Pipeline.owing O₀) 0 ((c.tc : Thread nD τ), sm))) :=
    BI.bigSep_subset (Finset.subset_univ _)
  have e : (bigSep (Finset.univ.map ⟨csem, csem_inj⟩) fun sm : SemLoc sig => (cred (tallyOn ((c.tc : Thread nD τ), sm) (launchCredit (Pipeline.owing O₀) 0 ((c.tc : Thread nD τ), sm))) : sProp 𝕄))
      = iprop(cred (tallyOn (cell c .bar) (launchCredit (Pipeline.owing O₀) 0 (cell c .bar)))
        ∗ (bigSep Finset.univ fun k => cred (tallyOn (cell c (.snd k)) (launchCredit (Pipeline.owing O₀) 0 (cell c (.snd k)))))
        ∗ bigSep Finset.univ fun k => cred (tallyOn (cell c (.rcv k)) (launchCredit (Pipeline.owing O₀) 0 (cell c (.rcv k))))) := by
    rw [BI.bigSep_map, sep_Cl]; rfl
  have e' : (bigSep Finset.univ fun k => (cred (tallyOn (cell c (.rcv k)) (launchCredit (Pipeline.owing O₀) 0 (cell c (.rcv k)))) : sProp 𝕄))
      = bigSep Finset.univ fun k => cred (tallyAt (cell c (.rcv k)) () (N k)) := bigSep_congr fun k _ => congrArg cred (launch_rcv c k)
  rw [e, launch_bar, e'] at h₁
  iintro H
  ihave H := h₁ $$ H
  icases H with ⟨H1, -, H2⟩
  isplitl [H1] <;> iassumption

end Cert.Proof.KernelIdeal
-- ==== Proof.Ideal.Launch.lean ====
/- The run of the whole program. -/
module

public import proofs.«01_k».proof.Proof.Ideal.Ghost
public import Idealize.ShloMosaic.Lib.Pipeline.CollectiveSegs

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the one point -/

/-- What a device enters the region with, -/
def X₀ (c : Dev nD) : sProp 𝕄 :=
  iprop(G' m c ∗ (cred (tallyAt (cell c .bar) () 3) ∗ bigSep Finset.univ fun k => cred (tallyAt (cell c (.rcv k)) () (N k))) ∗ levAts L lv
    ∗ (((c : Thread nD τ).loc main_arg0) ↦{fullShare} (m ((c : Thread nD τ).loc main_arg0))) ∗ (((c : Thread nD τ).loc main_v1) ↦{fullShare} (m ((c : Thread nD τ).loc main_v1))))
/-- and leaves it with. -/
def Y₁ (c : Dev nD) : sProp 𝕄 :=
  iprop(unscopedSems0 c ∗ (((c : Thread nD τ).loc main_arg0) ↦{fullShare} (m ((c : Thread nD τ).loc main_arg0)))
    ∗ ∃ X : FVec F S4096x2048 .f32, ⌜OutIs m c X⌝ ∗ owns (c : Thread nD τ) oM fullShare X)

def Φ₀ (c : Dev nD) : sProp 𝕄 := iprop(X₀ m c ∗ Pipeline.scopedRest cfg0.spec c)
def Φ₁ (c : Dev nD) : sProp 𝕄 := iprop(Y₁ m c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wX m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl

theorem before_0 (c : Dev nD) (d) : (dats m ρ 0 c).before (0 : Fin 1) t0_0 d = wX m c := by
  unfold Dat.before
  rw [if_pos (fetch_0 t0_0)]
  rfl

theorem recs_all (K : Dev nD × Cl → ℕ) :
    recs m K ⊢ bigSep Finset.univ fun p : Dev nD × Cl => iprop(cellInv ER (Rd m) (K p) (cell p.1 p.2) ∗ reached ER (cell p.1 p.2) 0) := .rfl

/-- The start of the body, from what the region begins with. -/
theorem start_of (c : Dev nD) :
    iprop(Φ₀ m c ∗ (∃ W, owes (c : Thread nD τ) (O₀ c) W) ∗ owns (c : Thread nD τ) wM fullShare (wX m c)) ⊢ iprop(∃ K, start m K c) := by
  unfold Φ₀ X₀ G' linear pay start
  rw [scopedRest0_eq, sep_Cl, sep_Lk, sep_Lk, sep_Lk, sep_Lk]
  iintro ⟨⟨⟨⟨%K, HR, ⟨⟨HaB, ⟨Hs8, Hs3⟩, ⟨Hv8, Hv3⟩⟩, ⟨Hx, Hst, Hld⟩⟩, ⟨Hb0, Hb1, Hb2⟩, ⟨Ht8, Ht3⟩⟩, ⟨Hc, ⟨Hk8, Hk3⟩⟩, Hlev, Harg, Hout⟩,
    Hs0, Hs1, Hs2, Hs3', Hs4, Hs12, Hs13⟩, HO, HW⟩
  iexists K
  isplitl [HR Hlev]
  · unfold records
    isplitl [HR]; · iapply (recs_all m K) $$ HR
    iexact Hlev
  isplitl [HO]; · iexact HO
  isplitl [Hb0 Hb1 Hb2 Hc HaB]
  · unfold barToks
    isplitl [Hb0]; · iexact Hb0
    isplitl [Hb1]; · iexact Hb1
    isplitl [Hb2]; · iexact Hb2
    isplitl [Hc]; · iexact Hc
    iexact HaB
  isplitl [Hs2 Hs3' Hs13]
  · ihave H := (any_owns c cc0_scratch2) $$ Hs2
    ihave H := (com_cut c comA) $$ H
    icases H with ⟨Hr0, Hr1, Hr2, Hr3⟩
    ihave H := (any_owns c cc0_scratch3) $$ Hs3'
    ihave H := (com_cut c comB) $$ H
    icases H with ⟨Hl0, Hl1, Hl2, Hl3⟩
    ihave H := (any_owns c cc0_scratch13) $$ Hs13
    ihave H := (bxs_cut c) $$ H
    icases H with ⟨Ha0, Ha1, Ha2⟩
    unfold lands land
    isplitl [Hl0 Hl1 Hl2 Hl3 Ha2]
    · isplitl [Hl0]; · iexact Hl0
      isplitl [Hl1]; · iexact Hl1
      isplitl [Hl2]; · iexact Hl2
      isplitl [Hl3]; · iexact Hl3
      iexact Ha2
    isplitl [Ha1]; · iexact Ha1
    isplitl [Hr0]; · iexact Hr0
    isplitl [Hr1]; · iexact Hr1
    isplitl [Hr2]; · iexact Hr2
    isplitl [Hr3]; · iexact Hr3
    iexact Ha0
  isplitl [Harg Hx]
  · isplitl [Harg]; · iapply (arg_cut m c) $$ Harg
    iexact Hx
  isplitl [Hs0 Hs1]
  · isplitl [Hs0]
    · iapply (any_owns c cc0_scratch0) $$ Hs0
    · iapply (any_owns c cc0_scratch1) $$ Hs1
  isplitl [Hs8 Hs3 Ht8 Ht3]
  · have e8 : iprop(ring8 (toks (F := F) c) ∗ ring8 fun k => (atPos ER (cell c (.snd k)) 0 ∅ 0 : sProp 𝕄)) ⊢ ring8 (pend (F := F) c) := by
      unfold pend
      iintro ⟨⟨⟨A1, A2⟩, ⟨A3, A4⟩, A5, A6, A7, A8⟩, ⟨⟨B1, B2⟩, ⟨B3, B4⟩, B5, B6, B7, B8⟩⟩
      isplitl [A1 A2 B1 B2]
      · isplitl [A1 B1]; · isplitl [A1] <;> iassumption
        isplitl [A2] <;> iassumption
      isplitl [A3 A4 B3 B4]
      · isplitl [A3 B3]; · isplitl [A3] <;> iassumption
        isplitl [A4] <;> iassumption
      isplitl [A5 B5]; · isplitl [A5] <;> iassumption
      isplitl [A6 B6]; · isplitl [A6] <;> iassumption
      isplitl [A7 B7]; · isplitl [A7] <;> iassumption
      isplitl [A8] <;> iassumption
    have e3 : iprop(max3 (toks (F := F) c) ∗ max3 fun k => (atPos ER (cell c (.snd k)) 0 ∅ 0 : sProp 𝕄)) ⊢ max3 (pend (F := F) c) := by
      unfold pend
      iintro ⟨⟨A1, A2, A3⟩, ⟨B1, B2, B3⟩⟩
      isplitl [A1 B1]; · isplitl [A1] <;> iassumption
      isplitl [A2 B2]; · isplitl [A2] <;> iassumption
      isplitl [A3] <;> iassumption
    isplitl [Hs8 Ht8]
    · iapply e8
      isplitl [Ht8]; · iexact Ht8
      iexact Hs8
    · iapply e3
      isplitl [Ht3]; · iexact Ht3
      iexact Hs3
  isplitl [Hv8 Hv3 Hk8 Hk3]
  · have e8 : iprop((ring8 fun k => (cred (tallyAt (cell c (.rcv k)) () (N k)) : sProp 𝕄)) ∗ ring8 fun k => (atPos ER (cell c (.rcv k)) 0 ∅ 0 : sProp 𝕄)) ⊢ ring8 (coming (F := F) c) := by
      unfold coming
      iintro ⟨⟨⟨A1, A2⟩, ⟨A3, A4⟩, A5, A6, A7, A8⟩, ⟨⟨B1, B2⟩, ⟨B3, B4⟩, B5, B6, B7, B8⟩⟩
      isplitl [A1 A2 B1 B2]
      · isplitl [A1 B1]; · isplitl [A1] <;> iassumption
        isplitl [A2] <;> iassumption
      isplitl [A3 A4 B3 B4]
      · isplitl [A3 B3]; · isplitl [A3] <;> iassumption
        isplitl [A4] <;> iassumption
      isplitl [A5 B5]; · isplitl [A5] <;> iassumption
      isplitl [A6 B6]; · isplitl [A6] <;> iassumption
      isplitl [A7 B7]; · isplitl [A7] <;> iassumption
      isplitl [A8] <;> iassumption
    have e3 : iprop((max3 fun k => (cred (tallyAt (cell c (.rcv k)) () (N k)) : sProp 𝕄)) ∗ max3 fun k => (atPos ER (cell c (.rcv k)) 0 ∅ 0 : sProp 𝕄)) ⊢ max3 (coming (F := F) c) := by
      unfold coming
      iintro ⟨⟨A1, A2, A3⟩, ⟨B1, B2, B3⟩⟩
      isplitl [A1 B1]; · isplitl [A1] <;> iassumption
      isplitl [A2 B2]; · isplitl [A2] <;> iassumption
      isplitl [A3] <;> iassumption
    isplitl [Hv8 Hk8]
    · iapply e8
      isplitl [Hk8]; · iexact Hk8
      iexact Hv8
    · iapply e3
      isplitl [Hk3]; · iexact Hk3
      iexact Hv3
  isplitl [HW]; · iexact HW
  isplitl [Hs12]; · iapply (any_owns c cc0_scratch12) $$ Hs12
  isplitl [Hs4]
  · iapply (slot_cut c)
    iapply (any_owns c cc0_scratch4) $$ Hs4
  isplitl [Hst]; · iexact Hst
  isplitl [Hld]; · iexact Hld
  iapply (out_cut c (m ((c : Thread nD τ).loc main_v1))) $$ Hout

/-- The body's end gives back what the region ends with. -/
theorem of_finish (c : Dev nD) :
    finish m c ⊢ iprop(Φ₁ m c ∗ (∃ W, owes (c : Thread nD τ) 0 W) ∗ owns (c : Thread nD τ) wM fullShare (wX m c)) := by
  unfold finish Φ₁ Y₁
  rw [scopedRest0_eq, ownSems0_eq, unscopedSems0_eq, sep_Lk, sep_Lk]
  iintro ⟨HO, HB, ⟨Hs8, Hs3⟩, ⟨Hv8, Hv3⟩, ⟨Hx, Hxs⟩, ⟨⟨HA, HB'⟩, ⟨HA0, HB0⟩, ⟨HA1, HB1⟩, ⟨HA20, HB20, HA21, HB21⟩⟩,
    ⟨⟨⟨Sr0, Sl0⟩, ⟨Sr1, Sl1⟩, ⟨Sr2, Sr3, Sl2, Sl3⟩⟩, ⟨Sa0, Sa1, Sa2⟩⟩, HW, Hbx, Hslot, Hst, Hld, Hd0, Hd1, Hd2, Hd3⟩
  isplitr [HO HW]
  · isplitl [HB Hx Hd0 Hd1 Hd2 Hd3]
    · isplitl [HB]; · iexact HB
      isplitl [Hx]; · iapply (arg_join m c) $$ Hx
      iapply (out_join m c)
      isplitl [Hd0]; · iexact Hd0
      isplitl [Hd1]; · iexact Hd1
      isplitl [Hd2]; · iexact Hd2
      iexact Hd3
    isplitl [Hs8 Hs3 Hv8 Hv3 Hxs Hst Hld]
    · isplitl [Hs8 Hs3 Hv8 Hv3]
      · isplitl [Hs8 Hs3]
        · isplitl [Hs8]; · iexact Hs8
          iexact Hs3
        · isplitl [Hv8]; · iexact Hv8
          iexact Hv3
      isplitl [Hxs]; · iexact Hxs
      isplitl [Hst]; · iexact Hst
      iexact Hld
    isplitl [HA Sr0]
    · ihave Sr0 := (show owns (c : Thread nD τ) (lnk (.r 0)).src (qS (.r 0)) (carried m c (.r 0)) ⊢ owns (c : Thread nD τ) ownA fullShare.right (topX m c) from .rfl) $$ Sr0
      ihave H := (owns_unshare (Val := Elt F) (c : Thread nD τ) ownA fullShare (topX m c)) $$ [HA Sr0]
      · isplitl [HA] <;> iassumption
      iapply (owns_any c cc0_scratch0 _) $$ H
    isplitl [HB' Sl0]
    · ihave Sl0 := (show owns (c : Thread nD τ) (lnk (.l 0)).src (qS (.l 0)) (carried m c (.l 0)) ⊢ owns (c : Thread nD τ) ownB fullShare.right (botX m c) from .rfl) $$ Sl0
      ihave H := (owns_unshare (Val := Elt F) (c : Thread nD τ) ownB fullShare (botX m c)) $$ [HB' Sl0]
      · isplitl [HB'] <;> iassumption
      iapply (owns_any c cc0_scratch1 _) $$ H
    isplitl [HA0 HA1 HA20 HA21 Sr1 Sr2 Sr3]
    · ihave H := (com_join c comA (topX m (prv c)) (topX m (prv (prv c))) (half 0 (topX m (prv (prv (prv c))))) (half 1 (topX m (prv (prv (prv c)))))) $$ [HA0 HA1 HA20 HA21 Sr1 Sr2 Sr3]
      · isplitl [HA0 Sr1]
        · isplitl [HA0]; · iexact HA0
          iexact Sr1
        isplitl [HA1]; · iexact HA1
        isplitl [Sr2 Sr3]
        · isplitl [Sr2]; · iexact Sr2
          iexact Sr3
        isplitl [HA20]; · iexact HA20
        iexact HA21
      icases H with ⟨%X, H⟩
      iapply (owns_any c cc0_scratch2 X) $$ H
    isplitl [HB0 HB1 HB20 HB21 Sl1 Sl2 Sl3]
    · ihave H := (com_join c comB (botX m (nxt c)) (botX m (nxt (nxt c))) (half 0 (botX m (nxt (nxt (nxt c))))) (half 1 (botX m (nxt (nxt (nxt c)))))) $$ [HB0 HB1 HB20 HB21 Sl1 Sl2 Sl3]
      · isplitl [HB0 Sl1]
        · isplitl [HB0]; · iexact HB0
          iexact Sl1
        isplitl [HB1]; · iexact HB1
        isplitl [Sl2 Sl3]
        · isplitl [Sl2]; · iexact Sl2
          iexact Sl3
        isplitl [HB20]; · iexact HB20
        iexact HB21
      icases H with ⟨%X, H⟩
      iapply (owns_any c cc0_scratch3 X) $$ H
    isplitl [Hslot]
    · ihave H := (slot_join c) $$ Hslot
      icases H with ⟨%X, H⟩
      iapply (owns_any c cc0_scratch4 X) $$ H
    isplitl [Sa0 Sa1 Sa2]
    · ihave Sa0 := (show owns (c : Thread nD τ) (lnk (.a 0)).src (qS (.a 0)) (carried m c (.a 0)) ⊢ owns (c : Thread nD τ) boxM fullShare.left (box (own m c)) from .rfl) $$ Sa0
      ihave Sa1 := (show owns (c : Thread nD τ) (lnk (.a 1)).src (qS (.a 1)) (carried m c (.a 1)) ⊢ owns (c : Thread nD τ) boxM fullShare.right.left (box (own m c)) from .rfl) $$ Sa1
      ihave Sa2 := (show owns (c : Thread nD τ) (lnk (.a 2)).src (qS (.a 2)) (carried m c (.a 2)) ⊢ owns (c : Thread nD τ) boxM fullShare.right.right (box (own m c)) from .rfl) $$ Sa2
      ihave H := (owns_unshare (Val := Elt F) (c : Thread nD τ) boxM fullShare.right (box (own m c))) $$ [Sa1 Sa2]
      · isplitl [Sa1] <;> iassumption
      ihave H := (owns_unshare (Val := Elt F) (c : Thread nD τ) boxM fullShare (box (own m c))) $$ [Sa0 H]
      · isplitl [Sa0] <;> iassumption
      iapply (owns_any c cc0_scratch12 _) $$ H
    ihave H := (bxs_join m c) $$ Hbx
    icases H with ⟨%X, H⟩
    iapply (owns_any c cc0_scratch13 X) $$ H
  isplitl [HO]; · iexact HO
  iexact HW

/-! ## The library's obligations -/

def bodyPre (c : Dev nD) : sProp 𝕄 :=
  iprop(Φ₀ m c ∗ (dats m ρ 0 c).owesAt () t0_0.castSucc ∗ (∃ d, owns (c : Thread nD τ) wM fullShare ((dats m ρ 0 c).before (0 : Fin 1) t0_0 d)))
def bodyPost (c : Dev nD) : sProp 𝕄 :=
  iprop(Φ₁ m c ∗ (dats m ρ 0 c).owesAt () t0_0.succ ∗ owns (c : Thread nD τ) wM fullShare (wX m c))

theorem body_sound (c : Dev nD) : bodyPre m ρ c ⊢ WP c (body (F := F)) (fun _ => bodyPost m ρ c) := by
  unfold bodyPre
  iintro ⟨HΦ, Ho, ⟨%d, HW⟩⟩
  ihave HW := (Entails.of_eq (congrArg (owns (c : Thread nD τ) wM fullShare) (before_0 m ρ c d))) $$ HW
  unfold Dat.owesAt Pipeline.owesWithin
  icases Ho with ⟨%W, %hW, HO⟩
  ihave HO := (show owes (c : Thread nD τ) ((dats m ρ 0 c).owed t0_0.castSucc) W ⊢ owes (c : Thread nD τ) (O₀ c) W from .rfl) $$ HO
  ihave H := (start_of m c) $$ [HΦ HO HW]
  · isplitl [HΦ]; · iexact HΦ
    isplitl [HO]; · iexists W; iexact HO
    iexact HW
  icases H with ⟨%K, H⟩
  iapply (wp_body m K c (fun _ => bodyPost m ρ c)) $$ H
  iintro H
  ihave H := (of_finish m c) $$ H
  icases H with ⟨HΦ, ⟨%W', HO⟩, HW⟩
  unfold bodyPost
  isplitl [HΦ]; · iexact HΦ
  isplitl [HO]
  · unfold Dat.owesAt Pipeline.owesWithin
    iexists W'
    isplitr
    · ipureintro; exact fun _ _ => Or.inl trivial
    iexact HO
  iexact HW

set_option maxRecDepth 1000000 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ WP c (bodyAt0 (F := F) t0_0) (fun _ => bodyPost m ρ c)
  rw [body_eq]
  exact body_sound m ρ c

theorem share_eq (c : Dev nD) (w : Fin cfg0.W) : (dats m ρ 0 c).share w = fullShare := by unfold Dat.share; split <;> rfl

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X₀ m c ∗ emp) := by
  rw [Pipeline.unscopedRestP_none, unscopedRest0_eq]
  iintro ⟨⟨Ha, Ho⟩, Hlev, Hcr, -, HG⟩
  ihave Hc := (creds (F := F) c) $$ Hcr
  imodintro
  unfold X₀
  isplitl
  · isplitl [HG]; · iexact HG
    isplitl [Hc]; · iexact Hc
    isplitl [Hlev]; · iexact Hlev
    isplitl [Ha]; · iexact Ha
    iexact Ho
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(Y₁ m c ∗ Pipeline.ownSems0 osem c ∗ Pipeline.scopedRest cfg0.spec c) := by
  rw [show (dats m ρ 0 c).Φ (Fin.last cfg0.N) = Φ₁ m c from rfl]
  unfold Φ₁
  iintro H
  iexact H

theorem clOf_stage (w : Fin cfg0.W) (s) : clOf (.dma ((cfg0.win w).sem s)) = none := clOf_none (by revert w s; decide +kernel)

theorem waits (c : Dev nD) : (levAts L lv : sProp 𝕄) ⊢ Pipeline.cellsWaits cfgs (dats m ρ) () 0 c :=
  Pipeline.cellsWaits_intro cfgs (dats m ρ) () 0 c fun w s t =>
    mayWait_stage c _ (clOf_stage w s) _ (by
      rcases t with ⟨_ | _, ht⟩
      · exact Or.inl rfl
      · exact Or.inr rfl)

/-! ## The run -/

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ OutIs m c (s.mem ((c : Thread nD τ).loc main_v1))

theorem read_end (c : Dev nD) (s' : Phys nD τ sig (Elt F)) :
    iprop(Y₁ m c ∗ emp ∗ SI s') ⊢ (|={Set.univ}=> iprop(⌜QY m c s'.mem⌝ ∗ SI s') : sProp 𝕄) := by
  unfold Y₁
  iintro ⟨⟨Hu, Ha, ⟨%X, %hX, Ho⟩⟩, -, HSI⟩
  ihave Ho := (Entails.of_eq (owns_pts c main_v1 fullShare X)) $$ Ho
  ihave %ha := (SI_pointsTo_agree (st := s') (ℓ := (c : Thread nD τ).loc main_arg0) (I := Finset.univ) (q := fullShare) (f := m ((c : Thread nD τ).loc main_arg0))) $$ [HSI Ha]
  · isplitl [HSI] <;> iassumption
  ihave %ho := (SI_pointsTo_agree (st := s') (ℓ := (c : Thread nD τ).loc main_v1) (I := Finset.univ) (q := fullShare) (f := X)) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    refine ⟨hs, funext fun i => ha i (Finset.mem_univ i), ?_⟩
    rw [show s'.mem.mem ((c : Thread nD τ).loc main_v1) = X from funext fun i => ho i (Finset.mem_univ i)]
    exact hX
  iexact HSI

set_option maxRecDepth 1000000 in
/-- From any memory with zero counters every weakly fair execution of the program ends, with both arguments unchanged on every device, every
    piece of every device's output the quantised block of the product, and every semaphore counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ OutIs m c (r.2.mem ((c : Thread nD τ).loc main_v1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m) $$ HX with HG
      imodintro
      isplitl [HP] <;> iassumption)
    (hglob := glob_step m)
    (hA := fun _ _ => rfl) (hpf := fun _ k => k.elim0)
    (X := X₀ m) (Y := Y₁ m) (Z := fun _ => iprop(emp))
    (hX := enter m ρ) (hin := phi0_intro m ρ) (hout := phi1_exit m ρ)
    (QY := QY m)
    (hY := read_end m)
    (hQ := fun _ h hs => ⟨fun c => ⟨(h c).2.2.2.1, ((h c).1 (0 : Fin 1)).trans ((dats (F := F) m ρ 0 c).arrAt_in (0 : Fin 1) rfl _), (h c).2.2.2.2⟩,
      sem_eq_zero hs fun c => (h c).2.2.1⟩)

end Cert.Proof.KernelIdeal
-- ==== Proof.Quant.lean ====
/- The quantiser over the extended reals: the kernel's and the reference's agree on every value between zero and the largest. -/
module

public import Idealize.ShloMosaic.PureOps.Ideal
public import Idealize.ShloMosaic.PureOps.Ideal.Laws
public import Mathlib.Tactic.NormNum
public import Mathlib.Tactic.Ring

@[expose] public section

noncomputable section

namespace Cert.Proof.Value

open Idealize.ShloMosaic

/-- The literals of the two programs. -/
theorem lit_448 : Ideal.ofBits .f32 0x43E00000#32 = ((448 : ℝ) : EReal) := by
  simp [Ideal.ofBits, Ideal.ieee, -EReal.coe_mul]; norm_num
theorem lit_split : Ideal.ofBits .f32 0x49800008#32 = ((1048577 : ℝ) : EReal) := by
  simp [Ideal.ofBits, Ideal.ieee, -EReal.coe_mul]; norm_num
theorem lit_bot : Ideal.ofBits .f32 0xFF800000#32 = ⊥ := by
  simp [Ideal.ofBits, Ideal.ieee]

/-- What the kernel makes of a value `y` when the largest is `g`, -/
def kernelQ (y g : EReal) : EReal :=
  let v := min (y * Ideal.div ((448 : ℝ) : EReal) g) ((448 : ℝ) : EReal)
  let u := v * ((1048577 : ℝ) : EReal)
  (u - (u - v)) * Ideal.div g ((448 : ℝ) : EReal)
/-- and what the reference does. -/
def refQ (y g : EReal) : EReal :=
  min (Ideal.div y (Ideal.div g ((448 : ℝ) : EReal))) ((448 : ℝ) : EReal) * Ideal.div g ((448 : ℝ) : EReal)

theorem coe448 : ((448 : ℝ) : EReal) ≠ 0 := by exact_mod_cast (by norm_num : (448 : ℝ) ≠ 0)

theorem min_coe (a b : ℝ) : min (a : EReal) (b : EReal) = ((min a b : ℝ) : EReal) := (EReal.coe_strictMono.monotone.map_min).symm

/-- They agree: at a largest value of zero or of infinity both give zero, and in between it is arithmetic of reals. -/
theorem quant_eq (y g : EReal) (h0 : 0 ≤ y) (hg : y ≤ g) : kernelQ y g = refQ y g := by
  have hs : Ideal.div g ((448 : ℝ) : EReal) = g * (((448 : ℝ)⁻¹ : ℝ) : EReal) := by
    unfold Ideal.div; rw [if_neg coe448, EReal.coe_inv]
  unfold kernelQ refQ
  rw [hs]
  have hp : (0 : EReal) < (((448 : ℝ)⁻¹ : ℝ) : EReal) := by exact_mod_cast (by norm_num : (0 : ℝ) < (448 : ℝ)⁻¹)
  have hp' : (0 : EReal) < ((448 : ℝ) : EReal) := by exact_mod_cast (by norm_num : (0 : ℝ) < (448 : ℝ))
  rcases eq_or_ne g 0 with rfl | hg0
  · have : y = 0 := le_antisymm hg h0
    subst this
    simp
  · induction g using EReal.rec with
    | bot => exact absurd (le_trans h0 hg) (by simp)
    | top =>
      rw [EReal.top_mul_of_pos hp]
      have e : Ideal.div ((448 : ℝ) : EReal) ⊤ = 0 := by unfold Ideal.div; rw [if_neg (by simp)]; simp
      have e' : Ideal.div y ⊤ = 0 := by unfold Ideal.div; rw [if_neg (by simp)]; simp
      rw [e, e', mul_zero, min_eq_left hp'.le]
      simp
    | coe r =>
      have hr0 : r ≠ 0 := by exact_mod_cast hg0
      induction y using EReal.rec with
      | bot => exact absurd h0 (by simp)
      | top => exact absurd hg (by simp)
      | coe s =>
        have e1 : Ideal.div ((448 : ℝ) : EReal) (r : EReal) = ((448 * r⁻¹ : ℝ) : EReal) := by
          unfold Ideal.div; rw [if_neg hg0, ← EReal.coe_inv, ← EReal.coe_mul]
        have e2 : Ideal.div (s : EReal) ((r : EReal) * (((448 : ℝ)⁻¹ : ℝ) : EReal)) = ((s * (448 * r⁻¹) : ℝ) : EReal) := by
          have h : ((r * (448 : ℝ)⁻¹ : ℝ) : EReal) ≠ 0 := by exact_mod_cast mul_ne_zero hr0 (by norm_num)
          rw [← EReal.coe_mul]
          unfold Ideal.div
          rw [if_neg h, ← EReal.coe_inv, ← EReal.coe_mul, mul_inv, inv_inv, mul_comm (448 : ℝ)]
        rw [e1, e2, ← EReal.coe_mul, min_coe]
        simp only [← EReal.coe_mul, ← EReal.coe_sub]
        rw [sub_sub_cancel]

/-- A largest value is known by what bounds it. -/
theorem eq_of_bounds {a b : EReal} (h : ∀ z, a ≤ z ↔ b ≤ z) : a = b := le_antisymm ((h b).mpr le_rfl) ((h a).mp le_rfl)

/-- A value that is not negative is its own absolute value. -/
theorem abs_eq {y : EReal} (h : 0 ≤ y) : max y (-y) = y := max_eq_left ((EReal.neg_le_zero.mpr h).trans h)

end Cert.Proof.Value
end
end
-- ==== Proof.Ideal.Bounds.lean ====
/- The largest value of a block, by what bounds it. -/
module

public import proofs.«01_k».proof.Proof.Ideal.Program
public import proofs.«01_k».proof.Proof.Quant
public import Idealize.ShloMosaic.PureOps.Reduce
public import Idealize.ShloMosaic.Lib.ValueIdxCore

@[expose] public section

noncomputable section

namespace Cert.Proof.KernelIdeal

open Cert.KernelIdeal Cert.KernelIdeal.Gen Cert.Proof.Value
open Idealize.ShloMosaic Idealize.ShloMosaic.TcCoe Idealize.ShloMosaic.ValueIdx
open scoped BigOperators

/-! ## Largest values -/

instance : Subsingleton S1.Idx := ⟨fun a b => funext fun i => Fin.ext (by
  have ha := (a i).isLt
  have hb := (b i).isLt
  fin_cases i
  change (a 0).val < 1 at ha
  change (b 0).val < 1 at hb
  show (a 0).val = (b 0).val
  omega)⟩

theorem reduce_le {s t : Shape} [Subsingleton t.Idx] {axes} (src : FVec Ideal s .f32) (h : s.Reduces axes t) (hφ) (hacc) (j : t.Idx) (z : EReal) :
    multiReduction .maximumf axes t src 0xFF800000#32 h hφ hacc j ≤ z ↔ ∀ i, src i ≤ z := by
  rw [multiReduction_maximumf_eq_fold, Finset.filter_true_of_mem (fun i _ => Subsingleton.elim _ _)]
  show Finset.fold max (Ideal.ofBits .f32 0xFF800000#32) src Finset.univ ≤ z ↔ _
  rw [lit_bot, Finset.fold_max_le]
  simp

theorem cast_le {s t : Shape} (v : FVec Ideal s .f32) (h : s.ShapeCasts t) (z : EReal) : (∀ i, shapeCast t v h i ≤ z) ↔ ∀ i, v i ≤ z :=
  (Shape.reshapeEquiv h).forall_congr_left.trans (by
    refine forall_congr' fun i => ?_
    unfold shapeCast
    rw [Equiv.apply_symm_apply])

theorem max5_le (Y : FVec Ideal S512x2048 .f32) (z : EReal) : max5 Y ≤ z ↔ ∀ j, Y j ≤ z :=
  (reduce_le (t := S1) _ _ (.inl rfl) rfl _ z).trans (cast_le _ _ z)
theorem max2_le (Y : FVec Ideal S256x2048 .f32) (z : EReal) : max2 Y ≤ z ↔ ∀ j, Y j ≤ z :=
  (reduce_le (t := S1) _ _ (.inl rfl) rfl _ z).trans (cast_le _ _ z)
theorem max8_le (v : Vec Ideal S1x8x128 .f32) (z : EReal) : max8 v ≤ z ↔ ∀ j, v j ≤ z :=
  ((reduce_le (t := S1) _ _ (.inl rfl) rfl _ z).trans (cast_le _ _ z)).trans (cast_le (s := S1x8x128) v _ z)

theorem box_le (a : Ideal .f32) (h) (z : EReal) : max8 (shapeCast S1x8x128 (box a) h) ≤ z ↔ a ≤ z := by
  rw [max8_le, cast_le]
  unfold box
  rw [cast_le]
  exact ⟨fun h => h (ix2 (⟨0, by decide⟩ : Fin 8) (⟨0, by decide⟩ : Fin 128)), fun h _ => h⟩

theorem halves_le (Y : FVec Ideal S512x2048 .f32) (z : EReal) : (∀ j, Y j ≤ z) ↔ (∀ j, top Y j ≤ z) ∧ ∀ j, low Y j ≤ z := by
  refine ⟨fun h => ⟨fun j => h _, fun j => h _⟩, fun ⟨h, h'⟩ j => ?_⟩
  obtain ⟨r, q, rfl⟩ : ∃ (r : Fin 512) (q : Fin 2048), j = ix2 r q := ⟨j 0, j 1, eq_ix2 j⟩
  by_cases hr : r.val < 256
  · refine (congrArg Y ?_).trans_le (h (ix2 (⟨r.val, hr⟩ : Fin 256) q))
    funext a; apply Fin.ext; fin_cases a
    · exact (Nat.zero_add _).symm
    · exact (Nat.zero_add _).symm
  · have := r.isLt
    refine (congrArg Y ?_).trans_le (h' (ix2 (⟨r.val - 256, by omega⟩ : Fin 256) q))
    funext a; apply Fin.ext; fin_cases a
    · show r.val = 256 + (r.val - 256); omega
    · exact (Nat.zero_add _).symm

end Cert.Proof.KernelIdeal
end
end
-- ==== Proof.Ideal.Largest.lean ====
/- The largest value of all, by what bounds every piece. -/
module

public import proofs.«01_k».proof.Proof.Ideal.Second
public import proofs.«01_k».proof.Proof.Ideal.Bounds

@[expose] public section

noncomputable section

namespace Cert.Proof.KernelIdeal

open Cert.KernelIdeal Cert.KernelIdeal.Gen Cert.Proof.Value
open Idealize.ShloMosaic Idealize.ShloMosaic.TcCoe Idealize.ShloMosaic.ValueIdx
open scoped BigOperators

variable (m : (ℓ : Loc nD τ sig) → Buf (Elt Ideal) ℓ)

theorem all16 {P : Fin 16 → Prop} (h0 : P 0) (h1 : P 1) (h2 : P 2) (h3 : P 3) (h4 : P 4) (h5 : P 5) (h6 : P 6) (h7 : P 7) (h8 : P 8) (h9 : P 9)
    (h10 : P 10) (h11 : P 11) (h12 : P 12) (h13 : P 13) (h14 : P 14) (h15 : P 15) : ∀ p, P p := by
  intro p
  fin_cases p
  exacts [h0, h1, h2, h3, h4, h5, h6, h7, h8, h9, h10, h11, h12, h13, h14, h15]

theorem maximum_le (a b : Ideal .f32) (z : EReal) : Scalar.maximumf a b ≤ z ↔ a ≤ z ∧ b ≤ z := max_le_iff

theorem max5_halves (Y : FVec Ideal S512x2048 .f32) (z : EReal) : max5 Y ≤ z ↔ (∀ j, top Y j ≤ z) ∧ ∀ j, low Y j ≤ z :=
  (max5_le Y z).trans (halves_le Y z)

theorem own_parts (c : Dev nD) (z : EReal) : own m c ≤ z ↔ ((((((((((∀ j, top (blk5 m c (topX m c)) j ≤ z) ∧ (∀ j, low (blk5 m c (topX m c)) j ≤ z))
      ∧ (∀ j, top (blk5 m c (botX m c)) j ≤ z) ∧ (∀ j, low (blk5 m c (botX m c)) j ≤ z))
      ∧ (∀ j, top (blk5 m c (topX m (prv c))) j ≤ z) ∧ (∀ j, low (blk5 m c (topX m (prv c))) j ≤ z))
      ∧ (∀ j, top (blk5 m c (botX m (nxt c))) j ≤ z) ∧ (∀ j, low (blk5 m c (botX m (nxt c))) j ≤ z))
      ∧ (∀ j, top (blk5 m c (topX m (prv (prv c)))) j ≤ z) ∧ (∀ j, low (blk5 m c (topX m (prv (prv c)))) j ≤ z))
      ∧ (∀ j, top (blk5 m c (botX m (nxt (nxt c)))) j ≤ z) ∧ (∀ j, low (blk5 m c (botX m (nxt (nxt c)))) j ≤ z))
      ∧ (∀ j, piece m c 12 j ≤ z)) ∧ (∀ j, piece m c 13 j ≤ z)) ∧ (∀ j, piece m c 14 j ≤ z)) ∧ (∀ j, piece m c 15 j ≤ z) := by
  unfold own
  iterate 9 rw [maximum_le]
  rw [max5_halves, max5_halves, max5_halves, max5_halves, max5_halves, max5_halves, max2_le, max2_le, max2_le, max2_le]

/-- A device's largest value is bounded by what bounds all its pieces, -/
theorem own_le (c : Dev nD) (z : EReal) : own m c ≤ z ↔ ∀ p j, piece m c p j ≤ z := by
  rw [own_parts]
  constructor
  · rintro ⟨⟨⟨⟨⟨⟨⟨⟨⟨⟨h0, h1⟩, ⟨h2, h3⟩⟩, ⟨h4, h5⟩⟩, ⟨h6, h7⟩⟩, ⟨h8, h9⟩⟩, ⟨h10, h11⟩⟩, h12⟩, h13⟩, h14⟩, h15⟩
    exact all16 (P := fun p => ∀ j, piece m c p j ≤ z) h0 h1 h2 h3 h4 h5 h6 h7 h8 h9 h10 h11 h12 h13 h14 h15
  · intro h
    exact ⟨⟨⟨⟨⟨⟨⟨⟨⟨⟨h 0, h 1⟩, ⟨h 2, h 3⟩⟩, ⟨h 4, h 5⟩⟩, ⟨h 6, h 7⟩⟩, ⟨h 8, h 9⟩⟩, ⟨h 10, h 11⟩⟩, h 12⟩, h 13⟩, h 14⟩, h 15⟩

theorem devices : ∀ c d : Dev nD, d = c ∨ d = prv c ∨ d = opp c ∨ d = nxt c := by decide

theorem glob_parts (c : Dev nD) (z : EReal) : glob m c ≤ z ↔ (((own m c ≤ z ∧ own m (prv c) ≤ z) ∧ own m (opp c) ≤ z) ∧ own m (nxt c) ≤ z) := by
  unfold glob
  generalize own m c = a0
  generalize own m (prv c) = a1
  generalize own m (opp c) = a2
  generalize own m (nxt c) = a3
  rw [maximum_le, maximum_le, maximum_le, box_le, box_le, box_le]

/-- and the largest of all by what bounds every device's. -/
theorem glob_le (c : Dev nD) (z : EReal) : glob m c ≤ z ↔ ∀ d p j, piece m d p j ≤ z := by
  rw [glob_parts]
  constructor
  · rintro ⟨⟨⟨h0, h1⟩, h2⟩, h3⟩ d
    apply (own_le m d z).mp
    rcases devices c d with h | h | h | h
    · rw [h]; exact h0
    · rw [h]; exact h1
    · rw [h]; exact h2
    · rw [h]; exact h3
  · intro h
    exact ⟨⟨⟨(own_le m _ z).mpr (h _), (own_le m _ z).mpr (h _)⟩, (own_le m _ z).mpr (h _)⟩, (own_le m _ z).mpr (h _)⟩

end Cert.Proof.KernelIdeal
end
end
-- ==== Proof.Ideal.Rows.lean ====
/- Which rows of the whole arrays the blocks hold. -/
module

public import proofs.«01_k».proof.Proof.Ideal.Protocol
public import proofs.«01_k».proof.Proof.Quant
public import Idealize.ShloMosaic.Lib.Layout
public import Idealize.ShloMosaic.Lib.MatmulPlain

@[expose] public section

noncomputable section

namespace Cert.Proof.KernelIdeal

open Cert.KernelIdeal Cert.KernelIdeal.Gen Cert.Proof.Value
open Idealize.ShloMosaic Idealize.ShloMosaic.TcCoe Idealize.ShloMosaic.ValueIdx
open scoped BigOperators

variable (m : (ℓ : Loc nD τ sig) → Buf (Elt Ideal) ℓ)
/-! ## The pieces -/

/-- How the arguments are cut over the devices. -/
theorem tilesX : Layout.Tiles ⟨2, ![1024, 4096]⟩ ⟨2, ![4096, 4096]⟩ 0 4 := by decide
theorem tilesW : Layout.Tiles ⟨2, ![4096, 2048]⟩ ⟨2, ![4096, 8192]⟩ 1 4 := by decide

section Whole
variable (x : FVec Ideal ⟨2, ![4096, 4096]⟩ .bf16) (w : FVec Ideal ⟨2, ![4096, 8192]⟩ .bf16)
variable (hx : ∀ c : Dev nD, m ((c.tc : Thread nD τ).loc main_arg0) = Layout.block ⟨2, ![1024, 4096]⟩ ⟨2, ![4096, 4096]⟩ 0 4 c x tilesX)
variable (hw : ∀ c : Dev nD, m ((c.tc : Thread nD τ).loc main_arg1) = Layout.block ⟨2, ![4096, 2048]⟩ ⟨2, ![4096, 8192]⟩ 1 4 c w tilesW)

/-- `X` holds the rows of `x` from row `b` on. -/
def Rows {n : ℕ} (X : FVec Ideal ⟨2, ![n, 4096]⟩ .bf16) (b : ℕ) : Prop :=
  ∀ (r : Fin n) (k : Fin 4096) (i : Fin 4096), i.val = b + r.val → X (ix2 r k) = x (ix2 i k)

include hx in
theorem topX_rows (c : Dev nD) : Rows x (topX m c) (1024 * c.val) := by
  intro r k i hi
  unfold topX
  rw [hx c]
  refine congrArg x (funext fun a => Fin.ext ?_)
  fin_cases a
  · show c.val * 1024 + (0 + 1 * r.val) = i.val
    omega
  · show 0 + 1 * k.val = k.val
    omega
include hx in
theorem botX_rows (c : Dev nD) : Rows x (botX m c) (1024 * c.val + 512) := by
  intro r k i hi
  unfold botX
  rw [hx c]
  refine congrArg x (funext fun a => Fin.ext ?_)
  fin_cases a
  · show c.val * 1024 + (512 + 1 * r.val) = i.val
    omega
  · show 0 + 1 * k.val = k.val
    omega
theorem half_rows (X : FVec Ideal S512x4096 .bf16) (b : ℕ) (h : Rows (n := 512) x X b) (t : Fin 2) : Rows (n := 256) x (half t X) (b + 256 * t.val) := by
  intro r k i hi
  have hr : 256 * t.val + r.val < 512 := by have := t.isLt; have := r.isLt; omega
  refine Eq.trans ?_ (h ⟨256 * t.val + r.val, hr⟩ k i (by show i.val = b + (256 * t.val + r.val); omega))
  refine congrArg X (funext fun a => Fin.ext ?_)
  fin_cases a
  · show 256 * t.val + 1 * r.val = 256 * t.val + r.val
    omega
  · show 0 + 1 * k.val = k.val
    omega

include hw in
theorem wX_cols (c : Dev nD) (k : Fin 4096) (q : Fin 2048) (i : Fin 8192) (hi : i.val = 2048 * c.val + q.val) : wX m c (ix2 k q) = w (ix2 k i) := by
  unfold wX
  rw [hw c]
  refine congrArg w (funext fun a => Fin.ext ?_)
  fin_cases a
  · show 0 * 4096 + 1 * k.val = k.val
    omega
  · show c.val * 2048 + (0 * 2048 + 1 * q.val) = i.val
    omega

end Whole
end Cert.Proof.KernelIdeal
end
end
-- ==== Proof.Ideal.Products.lean ====
/- What the products of the blocks hold over the extended reals. -/
module

public import proofs.«01_k».proof.Proof.Ideal.Rows

@[expose] public section

noncomputable section

namespace Cert.Proof.KernelIdeal

open Cert.KernelIdeal Cert.KernelIdeal.Gen Cert.Proof.Value
open Idealize.ShloMosaic Idealize.ShloMosaic.TcCoe Idealize.ShloMosaic.ValueIdx
open scoped BigOperators

/-- The whole product, negatives cut to zero. -/
def whole (x : FVec Ideal ⟨2, ![4096, 4096]⟩ .bf16) (w : FVec Ideal ⟨2, ![4096, 8192]⟩ .bf16) (i : (⟨2, ![4096, 8192]⟩ : Shape).Idx) : EReal :=
  max (0 + ∑ k : Fin 4096, x (ix2 (i 0) k) * w (ix2 k (i 1))) 0

theorem whole_nonneg (x : FVec Ideal ⟨2, ![4096, 4096]⟩ .bf16) (w : FVec Ideal ⟨2, ![4096, 8192]⟩ .bf16) (i) : 0 ≤ whole x w i := le_max_right _ _

variable (m : (ℓ : Loc nD τ sig) → Buf (Elt Ideal) ℓ)
section Whole
variable (x : FVec Ideal ⟨2, ![4096, 4096]⟩ .bf16) (w : FVec Ideal ⟨2, ![4096, 8192]⟩ .bf16)
variable (hx : ∀ c : Dev nD, m ((c.tc : Thread nD τ).loc main_arg0) = Layout.block ⟨2, ![1024, 4096]⟩ ⟨2, ![4096, 4096]⟩ 0 4 c x tilesX)
variable (hw : ∀ c : Dev nD, m ((c.tc : Thread nD τ).loc main_arg1) = Layout.block ⟨2, ![4096, 2048]⟩ ⟨2, ![4096, 8192]⟩ 1 4 c w tilesW)

/-! ## The products -/

theorem prod5_apply (X : FVec Ideal S512x4096 .bf16) (W : Vec Ideal S4096x2048 .bf16) (r : Fin 512) (q : Fin 2048) :
    prod5 X W (ix2 r q) = max (0 + ∑ k : Fin 4096, X (ix2 r k) * W (ix2 k q)) 0 := by
  unfold prod5
  rw [shapeCast_self]
  have h := Ideal.matmul_plain_apply (φ₁ := .bf16) (φ₂ := .bf16) (M := 512) (K := 4096) (N := 2048) none X W (constant S512x2048 .f32 0x00000000#32) r q
  rw [show constant (F := Ideal) S512x2048 .f32 0x00000000#32 (ix2 r q) = 0 from Ideal.ofBits_zero_f32] at h
  exact congrArg₂ max h Ideal.ofBits_zero_f32
theorem prod2_apply (X : FVec Ideal S256x4096 .bf16) (W : Vec Ideal S4096x2048 .bf16) (r : Fin 256) (q : Fin 2048) :
    prod2 X W (ix2 r q) = max (0 + ∑ k : Fin 4096, X (ix2 r k) * W (ix2 k q)) 0 := by
  unfold prod2
  rw [shapeCast_self]
  have h := Ideal.matmul_plain_apply (φ₁ := .bf16) (φ₂ := .bf16) (M := 256) (K := 4096) (N := 2048) none X W (constant S256x2048 .f32 0x00000000#32) r q
  rw [show constant (F := Ideal) S256x2048 .f32 0x00000000#32 (ix2 r q) = 0 from Ideal.ofBits_zero_f32] at h
  exact congrArg₂ max h Ideal.ofBits_zero_f32

include hw in
theorem blk5_apply (c : Dev nD) (X : FVec Ideal S512x4096 .bf16) (b : ℕ) (h : Rows (n := 512) x X b) (r : Fin 512) (q : Fin 2048)
    (i : (⟨2, ![4096, 8192]⟩ : Shape).Idx) (h0 : (i 0).val = b + r.val) (h1 : (i 1).val = 2048 * c.val + q.val) :
    blk5 m c X (ix2 r q) = whole x w i := by
  unfold blk5 whole
  rw [prod5_apply]
  refine congrArg (fun s => max (0 + s) 0) (Finset.sum_congr rfl fun k _ => ?_)
  rw [h r k (i 0) h0, wX_cols m w hw c k q (i 1) h1]
include hw in
theorem blk2_apply (c : Dev nD) (X : FVec Ideal S256x4096 .bf16) (b : ℕ) (h : Rows (n := 256) x X b) (j : S256x2048.Idx)
    (i : (⟨2, ![4096, 8192]⟩ : Shape).Idx) (h0 : (i 0).val = b + (j 0).val) (h1 : (i 1).val = 2048 * c.val + (j 1).val) :
    blk2 m c X j = whole x w i := by
  obtain ⟨r, q, rfl⟩ : ∃ (r : Fin 256) (q : Fin 2048), j = ix2 r q := ⟨j 0, j 1, eq_ix2 j⟩
  unfold blk2 whole
  rw [prod2_apply]
  refine congrArg (fun s => max (0 + s) 0) (Finset.sum_congr rfl fun k _ => ?_)
  rw [h r k (i 0) h0, wX_cols m w hw c k q (i 1) h1]

include hw in
theorem top_apply (c : Dev nD) (X : FVec Ideal S512x4096 .bf16) (b : ℕ) (h : Rows (n := 512) x X b) (j : S256x2048.Idx)
    (i : (⟨2, ![4096, 8192]⟩ : Shape).Idx) (h0 : (i 0).val = b + (j 0).val) (h1 : (i 1).val = 2048 * c.val + (j 1).val) :
    top (blk5 m c X) j = whole x w i := by
  have hj : (j 0).val < 256 := (j 0).isLt
  refine Eq.trans (congrArg (blk5 m c X) ?_) (blk5_apply m x w hw c X b h ⟨(j 0).val, by omega⟩ (j 1) i h0 h1)
  funext a; apply Fin.ext; fin_cases a
  · exact Nat.zero_add _
  · exact Nat.zero_add _
include hw in
theorem low_apply (c : Dev nD) (X : FVec Ideal S512x4096 .bf16) (b : ℕ) (h : Rows (n := 512) x X b) (j : S256x2048.Idx)
    (i : (⟨2, ![4096, 8192]⟩ : Shape).Idx) (h0 : (i 0).val = b + 256 + (j 0).val) (h1 : (i 1).val = 2048 * c.val + (j 1).val) :
    low (blk5 m c X) j = whole x w i := by
  have hj : (j 0).val < 256 := (j 0).isLt
  refine Eq.trans (congrArg (blk5 m c X) ?_) (blk5_apply m x w hw c X b h ⟨256 + (j 0).val, by omega⟩ (j 1) i (by rw [h0]; exact Nat.add_assoc _ _ _) h1)
  funext a; apply Fin.ext; fin_cases a
  · rfl
  · exact Nat.zero_add _

end Whole
end Cert.Proof.KernelIdeal
end
end
-- ==== Proof.Ideal.Value.lean ====
/- What the kernel leaves over the extended reals. -/
module

public import proofs.«01_k».proof.Proof.Ideal.Buffers
public import proofs.«01_k».proof.Proof.Ideal.Largest
public import proofs.«01_k».proof.Proof.Ideal.Products

@[expose] public section

noncomputable section

namespace Cert.Proof.KernelIdeal

open Cert.KernelIdeal Cert.KernelIdeal.Gen Cert.Proof.Value
open Idealize.ShloMosaic Idealize.ShloMosaic.TcCoe Idealize.ShloMosaic.ValueIdx
open scoped BigOperators

variable (m : (ℓ : Loc nD τ sig) → Buf (Elt Ideal) ℓ)
section Whole
variable (x : FVec Ideal ⟨2, ![4096, 4096]⟩ .bf16) (w : FVec Ideal ⟨2, ![4096, 8192]⟩ .bf16)
variable (hx : ∀ c : Dev nD, m ((c.tc : Thread nD τ).loc main_arg0) = Layout.block ⟨2, ![1024, 4096]⟩ ⟨2, ![4096, 4096]⟩ 0 4 c x tilesX)
variable (hw : ∀ c : Dev nD, m ((c.tc : Thread nD τ).loc main_arg1) = Layout.block ⟨2, ![4096, 2048]⟩ ⟨2, ![4096, 8192]⟩ 1 4 c w tilesW)

/-- The first row of the output a piece is of. -/
def rowOf (c : Dev nD) : Fin 16 → ℕ
  | 0 => 1024 * c.val | 1 => 1024 * c.val + 256
  | 2 => 1024 * c.val + 512 | 3 => 1024 * c.val + 512 + 256
  | 4 => 1024 * (prv c).val | 5 => 1024 * (prv c).val + 256
  | 6 => 1024 * (nxt c).val + 512 | 7 => 1024 * (nxt c).val + 512 + 256
  | 8 => 1024 * (prv (prv c)).val | 9 => 1024 * (prv (prv c)).val + 256
  | 10 => 1024 * (nxt (nxt c)).val + 512 | 11 => 1024 * (nxt (nxt c)).val + 512 + 256
  | 12 => 1024 * (prv (prv (prv c))).val + 256 * (0 : Fin 2).val | 13 => 1024 * (nxt (nxt (nxt c))).val + 512 + 256 * (0 : Fin 2).val
  | 14 => 1024 * (prv (prv (prv c))).val + 256 * (1 : Fin 2).val | _ => 1024 * (nxt (nxt (nxt c))).val + 512 + 256 * (1 : Fin 2).val

theorem outOff_row : ∀ (c : Dev nD) (p : Fin 16), outOff c p 0 = rowOf c p ∧ outOff c p 1 = 0 := by decide +kernel

include hx hw in
/-- A piece is its part of the whole product. -/
theorem piece_apply (c : Dev nD) : ∀ (p : Fin 16) (j : S256x2048.Idx) (i : (⟨2, ![4096, 8192]⟩ : Shape).Idx), (i 0).val = rowOf c p + (j 0).val
    → (i 1).val = 2048 * c.val + (j 1).val → piece m c p j = whole x w i :=
  have T := fun c => topX_rows m x hx c
  have B := fun c => botX_rows m x hx c
  all16
    (fun j i => top_apply m x w hw c _ _ (T _) j i) (fun j i => low_apply m x w hw c _ _ (T _) j i)
    (fun j i => top_apply m x w hw c _ _ (B _) j i) (fun j i => low_apply m x w hw c _ _ (B _) j i)
    (fun j i => top_apply m x w hw c _ _ (T _) j i) (fun j i => low_apply m x w hw c _ _ (T _) j i)
    (fun j i => top_apply m x w hw c _ _ (B _) j i) (fun j i => low_apply m x w hw c _ _ (B _) j i)
    (fun j i => top_apply m x w hw c _ _ (T _) j i) (fun j i => low_apply m x w hw c _ _ (T _) j i)
    (fun j i => top_apply m x w hw c _ _ (B _) j i) (fun j i => low_apply m x w hw c _ _ (B _) j i)
    (fun j i => blk2_apply m x w hw c _ _ (half_rows x _ _ (T _) 0) j i) (fun j i => blk2_apply m x w hw c _ _ (half_rows x _ _ (B _) 0) j i)
    (fun j i => blk2_apply m x w hw c _ _ (half_rows x _ _ (T _) 1) j i) (fun j i => blk2_apply m x w hw c _ _ (half_rows x _ _ (B _) 1) j i)

/-- Every index of a device's block is one of a piece. -/
theorem in_piece (c : Dev nD) (y : S4096x2048.Idx) : ∃ (p : Fin 16) (j : S256x2048.Idx), (outR c p).emb j = y ∧ (y 0).val = rowOf c p + (j 0).val ∧ (y 1).val = (j 1).val := by
  obtain ⟨p, hp⟩ := outR_cov c y
  obtain ⟨j, hj⟩ := LoadRect.exists_idx_of_mem _ hp
  refine ⟨p, j, hj, ?_, ?_⟩
  · rw [← hj, ← (outOff_row c p).1]
    show outOff c p 0 + 1 * (j 0).val = _
    rw [Nat.one_mul]
  · rw [← hj]
    show outOff c p 1 + 1 * (j 1).val = _
    rw [(outOff_row c p).2, Nat.one_mul, Nat.zero_add]

include hx hw in
/-- What bounds all pieces of all devices is what bounds the whole product. -/
theorem pieces_le (z : EReal) : (∀ d p j, piece m d p j ≤ z) ↔ ∀ i, whole x w i ≤ z := by
  constructor
  · intro h i
    have hi : (i 1).val < 8192 := (i 1).isLt
    let d : Dev nD := ⟨(i 1).val / 2048, by show _ < 4; omega⟩
    obtain ⟨p, j, _, h0, h1⟩ := in_piece d (ix2 (i 0) (⟨(i 1).val % 2048, Nat.mod_lt _ (by decide)⟩ : Fin 2048))
    rw [← piece_apply m x w hx hw d p j i h0 (by
      rw [← h1]
      exact (Nat.div_add_mod _ 2048).symm)]
    exact h d p j
  · intro h d p j
    have hp : outOff d p 0 + 256 ≤ 4096 := outInb d p 0
    have hj : (j 0).val < 256 := (j 0).isLt
    have hj' : (j 1).val < 2048 := (j 1).isLt
    have hd : d.val < 4 := d.isLt
    have e := (outOff_row d p).1
    rw [piece_apply m x w hx hw d p j (ix2 (⟨rowOf d p + (j 0).val, by omega⟩ : Fin 4096) (⟨2048 * d.val + (j 1).val, by omega⟩ : Fin 8192)) rfl rfl]
    exact h _

theorem quant_apply (g : Ideal .f32) (Y : FVec Ideal S256x2048 .f32) (j : S256x2048.Idx) : quant (scaleOf g) (invOf g) Y j = kernelQ (Y j) g := by
  unfold kernelQ
  rw [← lit_448, ← lit_split]
  rfl

include hx hw in
/-- What the kernel leaves, from the reference's largest value. -/
theorem out_apply (c : Dev nD) (X : FVec Ideal S4096x2048 .f32) (hX : OutIs m c X) (g : EReal) (hg : ∀ z, g ≤ z ↔ ∀ i, whole x w i ≤ z)
    (v : FVec Ideal ⟨2, ![4096, 8192]⟩ .f32) (hv : ∀ i, v i = refQ (whole x w i) g) :
    X = Layout.block ⟨2, ![4096, 2048]⟩ ⟨2, ![4096, 8192]⟩ 1 4 c v tilesW := by
  funext y
  obtain ⟨p, j, e, h0, h1⟩ := in_piece c y
  have hgl : glob m c = g := eq_of_bounds fun z => (glob_le m c z).trans ((pieces_le m x w hx hw z).trans (hg z).symm)
  rw [Layout.block_apply, hv, ← e, hX p j, quant_apply, hgl, e]
  generalize hi : Layout.Tiles.idx _ c y = i
  have i0 : (i 0).val = (y 0).val := by rw [← hi]; rfl
  have i1 : (i 1).val = c.val * 2048 + (y 1).val := by rw [← hi]; rfl
  rw [piece_apply m x w hx hw c p j i (i0.trans h0) (by rw [i1, h1, Nat.mul_comm])]
  exact quant_eq _ _ (whole_nonneg x w i) ((hg g).mp le_rfl i)

end Whole
end Cert.Proof.KernelIdeal
end
end
-- ==== Proof.Reference.lean ====
/- What the reference leaves over the extended reals. -/
module

public import proofs.«01_k».proof.Proof.Gen.ReferenceIdeal.Value
public import proofs.«01_k».proof.Proof.Ideal.Bounds
public import proofs.«01_k».proof.Proof.Ideal.Products
public import Idealize.ShloMosaic.Lib.StackMember
public import Idealize.ShloMosaic.Lib.Pipeline.ValueKit.Basic
public import Idealize.ShloMosaic.Lib.StableHlo.RunRead

@[expose] public section

noncomputable section

namespace Cert.Proof.ReferenceIdeal

open Cert.ReferenceIdeal Cert.ReferenceIdeal.Gen Cert.Proof.Value
open Cert.Proof.KernelIdeal (whole whole_nonneg reduce_le cast_le)
open Idealize.ShloMosaic Idealize.ShloMosaic.TcCoe Idealize.ShloMosaic.ValueIdx
open scoped BigOperators

/-! ## The quantiser -/

instance : Subsingleton S1.Idx := inferInstanceAs (Subsingleton Cert.KernelIdeal.S1.Idx)

/-- The largest absolute value the reference scales by. -/
def largest (y : FVec Ideal S4096x8192 .f32) : Ideal .f32 :=
  extractAt ![0, 0, 0] (shapeCast S1x1x1 (multiReduction .maximumf [1, 2] S1 (shapeCast S1x4096x8192 (absf (shapeCast S4096x8192 y shapeCasts_S4096x8192_S4096x8192))
    shapeCasts_S4096x8192_S1x4096x8192) 0xFF800000#32 reduces_S1x4096x8192_S1 (.inl rfl) rfl) shapeCasts_S1_S1x1x1) inpos_S1x1x1_p0_0_0

theorem largest_le (y : FVec Ideal S4096x8192 .f32) (h : ∀ i, 0 ≤ y i) (z : EReal) : largest y ≤ z ↔ ∀ i, y i ≤ z := by
  refine (reduce_le (t := S1) _ _ (.inl rfl) rfl _ z).trans ((cast_le _ _ z).trans (forall_congr' fun i => ?_))
  rw [shapeCast_self]
  show max (y i) (-(y i)) ≤ z ↔ _
  rw [abs_eq (h i)]

theorem pay_apply (y : FVec Ideal S4096x8192 .f32) (i : S4096x8192.Idx) : k0_pay1 (F := Ideal) y i = refQ (y i) (largest y) := by
  unfold refQ
  rw [← lit_448]
  unfold k0_pay1
  show min (Ideal.div (shapeCast S4096x8192 y shapeCasts_S4096x8192_S4096x8192 i) (Ideal.div (largest y) _)) _ * (Ideal.div (largest y) _) = _
  rw [shapeCast_self]
  rfl

/-! ## The product -/

variable (m : (ℓ : Loc nD τ sig) → Buf (Elt Ideal) ℓ)

theorem entry_value (c : Dev nD) : V m c main_v4 = maximumf (Host.dotGeneral (F := Ideal) (φ₁ := .f32) (φ₂ := .f32) dot_S4096x4096_S4096x8192_S4096x8192_1_0_0_1_n_n none
      (extf (F := Ideal) .f32 (m ((c : Thread nD τ).loc main_arg0)) bitsLt_bf16_f32) (extf (F := Ideal) .f32 (m ((c : Thread nD τ).loc main_arg1)) bitsLt_bf16_f32))
      (broadcastInDim S4096x8192 ![] bcast_S_S4096x8192 (constant S_ .f32 0x00000000#32)) := by
  show StableHlo.after hostOps0 (fun b => m (c, b)) (Proc.devRef .tc main_v4) = _
  unfold hostOps0
  after_reads_simp

theorem entry_apply (c : Dev nD) (i : S4096x8192.Idx) :
    V m c main_v4 i = whole (m ((c : Thread nD τ).loc main_arg0)) (m ((c : Thread nD τ).loc main_arg1)) i := by
  rw [entry_value]
  obtain ⟨r, q, rfl⟩ : ∃ (r : Fin 4096) (q : Fin 8192), i = ix2 r q := ⟨i 0, i 1, eq_ix2 i⟩
  have h := StackMember.dotGeneral_plain_apply (m := 4096) (k := 4096) (n := 8192) (φ₁ := .f32) (φ₂ := .f32) none
    (extf (F := Ideal) .f32 (m ((c : Thread nD τ).loc main_arg0)) bitsLt_bf16_f32) (extf (F := Ideal) .f32 (m ((c : Thread nD τ).loc main_arg1)) bitsLt_bf16_f32) r q
  unfold whole
  rw [zero_add]
  exact congrArg₂ (max : EReal → EReal → EReal) h Ideal.ofBits_zero_f32

/-! ## The result -/

theorem off0 : ∀ a : Fin 2, (![0, 0] : Fin 2 → ℕ) a = 0 := by decide

/-- The result array. -/
def result (c : Dev nD) : FVec Ideal S4096x8192 .f32 := (dats m 0 c).arrAt 1 cfg0.N

theorem out_value (y : FVec Ideal S4096x8192 .f32) : out0_1 (F := Ideal) y = k0_pay1 (F := Ideal) y := by
  unfold out0_1
  refine (View.canon_cons_unit_lit (S := S4096x8192) (off := ![0, 0]) inb_S4096x8192_S4096x8192_0_0 _ [] off0).trans ?_
  exact congrArg (k0_pay1 (F := Ideal)) (View.ld_unit_lit (Val := Elt Ideal) (e := .f32) (S := S4096x8192) (off := ![0, 0]) inb_S4096x8192_S4096x8192_0_0 y off0)

theorem out_emb (i : S4096x8192.Idx) : ((cfg0.win 1).blk t0_0).view.emb i = i := by
  funext a; apply Fin.ext; fin_cases a
  · show 0 * 4096 + 1 * (i 0).val = (i 0).val
    omega
  · show 0 * 8192 + 1 * (i 1).val = (i 1).val
    omega
theorem in_emb (i : S4096x8192.Idx) : ((cfg0.win 0).blk t0_0).view.emb i = i := by
  funext a; apply Fin.ext; fin_cases a
  · show 0 * 4096 + 1 * (i 0).val = (i 0).val
    omega
  · show 0 * 8192 + 1 * (i 1).val = (i 1).val
    omega

theorem out_read (A : FVec Ideal S4096x8192 .f32) (i : S4096x8192.Idx) : ((cfg0.win 1).blk t0_0).view.read (Elt Ideal) A i = A i :=
  congrArg A (out_emb i)

theorem block_value (c : Dev nD) : iblk m c 0 t0_0 = V m c main_v4 := by
  funext i
  exact congrArg (V m c main_v4) (in_emb i)

theorem result_eq (c : Dev nD) : result m c = k0_pay1 (F := Ideal) (V m c main_v4) := by
  have h := (Cert.ReferenceIdeal.Value.blocks1 m c t0_0 (by decide)).trans (Cert.ReferenceIdeal.Value.flushed1 m c t0_0)
  rw [block_value] at h
  funext i
  have h2 := congrFun h i
  have h3 : (cfg0.win 1).cut (grid0.coords t0_0) (out0_1 (F := Ideal) (V m c main_v4)) i = out0_1 (F := Ideal) (V m c main_v4) i := rfl
  exact (out_read (result m c) i).symm.trans (h2.trans (h3.trans (congrFun (out_value (V m c main_v4)) i)))

theorem result_apply (c : Dev nD) (i : S4096x8192.Idx) :
    result m c i = refQ (whole (m ((c : Thread nD τ).loc main_arg0)) (m ((c : Thread nD τ).loc main_arg1)) i) (largest (V m c main_v4)) := by
  rw [result_eq, pay_apply, entry_apply]

theorem result_largest (c : Dev nD) (z : EReal) :
    largest (V m c main_v4) ≤ z ↔ ∀ i, whole (m ((c : Thread nD τ).loc main_arg0)) (m ((c : Thread nD τ).loc main_arg1)) i ≤ z := by
  rw [largest_le _ (fun i => by rw [entry_apply]; exact whole_nonneg _ _ i)]
  exact forall_congr' fun i => by rw [entry_apply]

end Cert.Proof.ReferenceIdeal
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ideal.Launch
public import proofs.«01_k».proof.Proof.Launch
public import proofs.«01_k».proof.Proof.Ideal.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's devices leave their parts of what the reference leaves. -/
theorem algebraic [Cert.KernelIdeal.Facts] [Cert.ReferenceIdeal.Facts] : Cert.algebraic_KernelIdeal_ReferenceIdeal := fun m g m' g' _ h =>
  ⟨Cert.Proof.ReferenceIdeal.result m' 0,
    θ_run_mono (Cert.Proof.KernelIdeal.run_main m g) fun r hr c =>
      ⟨Cert.Proof.KernelIdeal.out_apply m _ _ (fun c => (h c).1) (fun c => (h c).2) c _ (hr.1 c).2.2 _ (Cert.Proof.ReferenceIdeal.result_largest m' 0) _
          (Cert.Proof.ReferenceIdeal.result_apply m' 0), (hr.1 c).1, (hr.1 c).2.1⟩,
    θ_run_mono (Cert.ReferenceIdeal.Value.run_blocks m' g') fun r hr => hr 0⟩

theorem claim : Cert.Claim := ⟨Cert.Kernel.Gen.facts, Cert.KernelIdeal.Gen.facts, Cert.ReferenceIdeal.Gen.facts,
  fun m ρ _ => θ_run_mono (Cert.Proof.Kernel.run_main m ρ) fun r h => ⟨fun c => ⟨(h.1 c).1, (h.1 c).2.1⟩, h.2⟩,
  fun m ρ _ => θ_run_mono (Cert.Proof.KernelIdeal.run_main m ρ) fun r h => ⟨fun c => ⟨(h.1 c).1, (h.1 c).2.1⟩, h.2⟩,
  fun m ρ _ => Cert.ReferenceIdeal.Gen.frame m ρ,
  trivial, algebraic⟩

end Cert.Proof

end
